-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_is_permutation [hPre_is_permutation : Cert.Pre_is_permutation.Facts] (m : (ℓ : Loc Cert.KernelIdeal.nD Cert.KernelIdeal.τ Cert.KernelIdeal.sig) → Buf (Elt Ideal) ℓ) : Prop :=
  ∀ c : Dev Cert.KernelIdeal.nD,
    (Cert.Pre_is_permutation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_permutation [hPre_is_permutation : Cert.Pre_is_permutation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_permutation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_is_permutation [hKernelIdeal : Cert.KernelIdeal.Facts] [hPre_is_permutation : Cert.Pre_is_permutation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_permutation m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_is_permutation [hReferenceIdeal : Cert.ReferenceIdeal.Facts] [hPre_is_permutation : Cert.Pre_is_permutation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_permutation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_is_permutation [hKernelIdeal : Cert.KernelIdeal.Facts] [hReferenceIdeal : Cert.ReferenceIdeal.Facts] [hPre_is_permutation : Cert.Pre_is_permutation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_permutation m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_is_permutation : Cert.Pre_is_permutation.Facts),
    quiescent_Kernel (hKernel := hKernel)
    ∧ quiescent_KernelIdeal (hKernelIdeal := hKernelIdeal)
    ∧ quiescent_KernelIdeal_pre_is_permutation (hKernelIdeal := hKernelIdeal) (hPre_is_permutation := hPre_is_permutation)
    ∧ quiescent_ReferenceIdeal (hReferenceIdeal := hReferenceIdeal)
    ∧ quiescent_ReferenceIdeal_pre_is_permutation (hReferenceIdeal := hReferenceIdeal) (hPre_is_permutation := hPre_is_permutation)
    ∧ preserves_Kernel_KernelIdeal
    ∧ algebraic_KernelIdeal_ReferenceIdeal_pre_is_permutation (hKernelIdeal := hKernelIdeal) (hReferenceIdeal := hReferenceIdeal) (hPre_is_permutation := hPre_is_permutation)
-- ==== Pre_is_permutation.lean ====
abbrev S4096x26x128 : Shape := ⟨3, ![4096, 26, 128]⟩
abbrev S128 : Shape := ⟨1, ![128]⟩
abbrev S128x128 : Shape := ⟨2, ![128, 128]⟩
abbrev S128x1 : Shape := ⟨2, ![128, 1]⟩
abbrev S1x128 : Shape := ⟨2, ![1, 128]⟩
abbrev S_ : Shape := ⟨0, ![]⟩

class Facts : Prop where
  bcast_S128_S128x1_0 : S128.BroadcastsInDim S128x1 (![0] : Fin 1 → Fin S128x1.rank)
  bcast_S128_S1x128_1 : S128.BroadcastsInDim S1x128 (![1] : Fin 1 → Fin S1x128.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)

variable [Facts]

def fn {F : FTy → Type} [FloatOps F] (main_arg0 : FVec F S4096x26x128 .f32) (main_arg1 : IVec S128 32) (main_arg2 : FVec F S128x128 .f32) (main_arg3 : FVec F S128 .f32) : IVec S128x128 1 :=
  let main_v0 : IVec S128x128 32 := iotaInDim S128x128 32 0
  let main_v1 : IVec S128x128 32 := iotaInDim S128x128 32 1
  let main_v2 : IVec S128x1 32 := broadcastInDim S128x1 ![0] bcast_S128_S128x1_0 main_arg1
  let main_v3 : IVec S1x128 32 := broadcastInDim S1x128 ![1] bcast_S128_S1x128_1 main_arg1
  let main_c : IVec S_ 32 := constantI S_ 32 0#32
  let main_v4 : IVec S128x1 32 := broadcastInDim S128x1 ![] bcast_S_S128x1 main_c
  let main_v5 : IVec S128x1 1 := cmpi .sge main_v2 main_v4
  let main_c_0 : IVec S_ 32 := constantI S_ 32 128#32
  let main_v6 : IVec S128x1 32 := broadcastInDim S128x1 ![] bcast_S_S128x1 main_c_0
  let main_v7 : IVec S128x1 1 := cmpi .slt main_v2 main_v6
  let main_v8 : IVec S128x1 1 := andi main_v5 main_v7
  let main_v9 : IVec S128x128 32 := broadcastInDim S128x128 ![0, 1] bcast_S128x1_S128x128_0_1 main_v2
  let main_v10 : IVec S128x128 32 := broadcastInDim S128x128 ![0, 1] bcast_S1x128_S128x128_0_1 main_v3
  let main_v11 : IVec S128x128 1 := cmpi .ne main_v9 main_v10
  let main_v12 : IVec S128x128 1 := cmpi .eq main_v0 main_v1
  let main_v13 : IVec S128x128 1 := ori main_v11 main_v12
  let main_v14 : IVec S128x128 1 := broadcastInDim S128x128 ![0, 1] bcast_S128x1_S128x128_0_1 main_v8
  let main_v15 : IVec S128x128 1 := andi main_v14 main_v13
  main_v15
-- ==== Kernel.lean ====
abbrev S4096x26x128 : Shape := ⟨3, ![4096, 26, 128]⟩
abbrev S128 : Shape := ⟨1, ![128]⟩
abbrev S128x128 : Shape := ⟨2, ![128, 128]⟩
abbrev S1x128 : Shape := ⟨2, ![1, 128]⟩
abbrev S26x4096x128 : Shape := ⟨3, ![26, 4096, 128]⟩
abbrev S106496x128 : Shape := ⟨2, ![106496, 128]⟩
abbrev S4x13312x128 : Shape := ⟨3, ![4, 13312, 128]⟩
abbrev S4 : Shape := ⟨1, ![4]⟩
abbrev S1 : Shape := ⟨1, ![1]⟩
abbrev S_ : Shape := ⟨0, ![]⟩
abbrev S1x13312x128 : Shape := ⟨3, ![1, 13312, 128]⟩
abbrev S13312x128 : Shape := ⟨2, ![13312, 128]⟩

abbrev nBuf : Space → Nat
  | .hbm => 11
  | .vmem => 6
  | .smem => 0
  | _ => 0

abbrev bufTy : (tb : Table) → Fin (tcTables nBuf tb) → BufTy
  | .hbm, ⟨0, _⟩ => ⟨S4096x26x128, .f32⟩
  | .hbm, ⟨1, _⟩ => ⟨S128, .i32⟩
  | .hbm, ⟨2, _⟩ => ⟨S128x128, .f32⟩
  | .hbm, ⟨3, _⟩ => ⟨S128, .f32⟩
  | .hbm, ⟨4, _⟩ => ⟨S1x128, .i32⟩
  | .hbm, ⟨5, _⟩ => ⟨S1x128, .f32⟩
  | .hbm, ⟨6, _⟩ => ⟨S26x4096x128, .f32⟩
  | .hbm, ⟨7, _⟩ => ⟨S106496x128, .f32⟩
  | .hbm, ⟨8, _⟩ => ⟨S106496x128, .f32⟩
  | .hbm, ⟨9, _⟩ => ⟨S26x4096x128, .f32⟩
  | .hbm, ⟨10, _⟩ => ⟨S4096x26x128, .f32⟩
  | .local _ .vmem, ⟨0, _⟩ => ⟨S1x128, .i32⟩
  | .local _ .vmem, ⟨1, _⟩ => ⟨S128x128, .f32⟩
  | .local _ .vmem, ⟨2, _⟩ => ⟨S1x128, .f32⟩
  | .local _ .vmem, ⟨3, _⟩ => ⟨S4x13312x128, .f32⟩
  | .local _ .vmem, ⟨4, _⟩ => ⟨S4x13312x128, .f32⟩
  | .local _ .vmem, ⟨5, _⟩ => ⟨S128x128, .f32⟩
  | _, _ => ⟨S4096x26x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![8], ![false]⟩

def k0_off1 (i : grid0.Coords) : Fin 1 → Nat :=
  let arg0 : BitVec 32 := BitVec.ofNat 32 (i 0).val
  let c4_i32 : BitVec 32 := 4#32
  let v3 : BitVec 32 := Scalar.remsi arg0 c4_i32
  ![v3.toNat]
def k0_off2 (i : grid0.Coords) : Fin 3 → Nat :=
  let arg0 : BitVec 32 := BitVec.ofNat 32 (i 0).val
  let c4_i32 : BitVec 32 := 4#32
  let v3 : BitVec 32 := Scalar.remsi arg0 c4_i32
  let c0_i32_1 : BitVec 32 := 0#32
  let c0_i32_2 : BitVec 32 := 0#32
  ![v3.toNat, 0, 0]
def k0_off3 (i : grid0.Coords) : Fin 2 → Nat :=
  let arg0 : BitVec 32 := BitVec.ofNat 32 (i 0).val
  let c13312_i32 : BitVec 32 := 13312#32
  let v4 : BitVec 32 := Scalar.muli arg0 c13312_i32
  let c0_i32_3 : BitVec 32 := 0#32
  ![v4.toNat, 0]
def k0_cond2 (i : grid0.Coords) : BitVec 1 :=
  let arg0 : BitVec 32 := BitVec.ofNat 32 (i 0).val
  let c4_i32_4 : BitVec 32 := 4#32
  let v10 : BitVec 1 := Scalar.cmpi .sge arg0 c4_i32_4
  let v11 : BitVec 32 := Scalar.extui v10
  let c0_i32_5 : BitVec 32 := 0#32
  let v12 : BitVec 1 := Scalar.cmpi .ne v11 c0_i32_5
  v12

def k0_off4 (i : grid0.Coords) : Fin 1 → Nat :=
  let arg0 : BitVec 32 := BitVec.ofNat 32 (i 0).val
  let c4_i32 : BitVec 32 := 4#32
  let v3 : BitVec 32 := Scalar.remsi arg0 c4_i32
  ![v3.toNat]
def k0_off5 (i : grid0.Coords) : Fin 2 → Nat :=
  let arg0 : BitVec 32 := BitVec.ofNat 32 (i 0).val
  let c4_i32_20 : BitVec 32 := 4#32
  let v40 : BitVec 32 := Scalar.subi arg0 c4_i32_20
  let c13312_i32_21 : BitVec 32 := 13312#32
  let v41 : BitVec 32 := Scalar.muli v40 c13312_i32_21
  let c0_i32_22 : BitVec 32 := 0#32
  ![v41.toNat, 0]
def k0_off6 (i : grid0.Coords) : Fin 3 → Nat :=
  let arg0 : BitVec 32 := BitVec.ofNat 32 (i 0).val
  let c4_i32 : BitVec 32 := 4#32
  let v3 : BitVec 32 := Scalar.remsi arg0 c4_i32
  let c0_i32_23 : BitVec 32 := 0#32
  let c0_i32_24 : BitVec 32 := 0#32
  ![v3.toNat, 0, 0]
def k0_off7 (i : grid0.Coords) : Fin 3 → Nat :=
  let arg0 : BitVec 32 := BitVec.ofNat 32 (i 0).val
  let c4_i32 : BitVec 32 := 4#32
  let v3 : BitVec 32 := Scalar.remsi arg0 c4_i32
  let v13 : Index := Scalar.indexCast v3
  let c0 : Index := 0#32
  let c0_6 : Index := 0#32
  ![v13.toNat, 0, 0]
def k0_cond3 (i : grid0.Coords) : BitVec 1 :=
  let arg0 : BitVec 32 := BitVec.ofNat 32 (i 0).val
  let c4_i32_17 : BitVec 32 := 4#32
  let v33 : BitVec 32 := Scalar.addi arg0 c4_i32_17
  let c8_i32 : BitVec 32 := 8#32
  let v34 : BitVec 1 := Scalar.cmpi .slt v33 c8_i32
  let v35 : BitVec 32 := Scalar.extui v34
  let c0_i32_18 : BitVec 32 := 0#32
  let v36 : BitVec 1 := Scalar.cmpi .ne v35 c0_i32_18
  v36

def k0_off8 (i : grid0.Coords) : Fin 1 → Nat :=
  let arg0 : BitVec 32 := BitVec.ofNat 32 (i 0).val
  let c4_i32 : BitVec 32 := 4#32
  let v3 : BitVec 32 := Scalar.remsi arg0 c4_i32
  ![v3.toNat]
def k0_off9 (i : grid0.Coords) : Fin 3 → Nat :=
  let arg0 : BitVec 32 := BitVec.ofNat 32 (i 0).val
  let c4_i32 : BitVec 32 := 4#32
  let v3 : BitVec 32 := Scalar.remsi arg0 c4_i32
  let c0_i32_22 : BitVec 32 := 0#32
  let c0_i32_23 : BitVec 32 := 0#32
  ![v3.toNat, 0, 0]
def k0_off10 (i : grid0.Coords) : Fin 2 → Nat :=
  let arg0 : BitVec 32 := BitVec.ofNat 32 (i 0).val
  let c4_i32_20 : BitVec 32 := 4#32
  let v40 : BitVec 32 := Scalar.addi arg0 c4_i32_20
  let c13312_i32_21 : BitVec 32 := 13312#32
  let v41 : BitVec 32 := Scalar.muli v40 c13312_i32_21
  let c0_i32_24 : BitVec 32 := 0#32
  ![v41.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x26x128 : Shape := ⟨3, ![4096, 26, 128]⟩
abbrev S128 : Shape := ⟨1, ![128]⟩
abbrev S128x128 : Shape := ⟨2, ![128, 128]⟩
abbrev S_ : Shape := ⟨0, ![]⟩
abbrev S128x1 : Shape := ⟨2, ![128, 1]⟩
abbrev S1 : Shape := ⟨1, ![1]⟩
abbrev S1x1 : Shape := ⟨2, ![1, 1]⟩
abbrev S1x1x128 : Shape := ⟨3, ![1, 1, 128]⟩

abbrev nBuf : Space → Nat
  | .hbm => 31
  | .vmem => 0
  | .smem => 0
  | _ => 0

abbrev bufTy : (tb : Table) → Fin (tcTables nBuf tb) → BufTy
  | .hbm, ⟨0, _⟩ => ⟨S4096x26x128, .f32⟩
  | .hbm, ⟨1, _⟩ => ⟨S128, .i32⟩
  | .hbm, ⟨2, _⟩ => ⟨S128x128, .f32⟩
  | .hbm, ⟨3, _⟩ => ⟨S128, .f32⟩
  | .hbm, ⟨4, _⟩ => ⟨S_, .i32⟩
  | .hbm, ⟨5, _⟩ => ⟨S128, .i32⟩
  | .hbm, ⟨6, _⟩ => ⟨S128, .i1⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S128x1, .i32⟩
  | .hbm, ⟨12, _⟩ => ⟨S1, .i32⟩
  | .hbm, ⟨13, _⟩ => ⟨S_, .i32⟩
  | .hbm, ⟨14, _⟩ => ⟨S128x1, .i32⟩
  | .hbm, ⟨15, _⟩ => ⟨S128x1, .i1⟩
  | .hbm, ⟨16, _⟩ => ⟨S1x1, .i32⟩
  | .hbm, ⟨17, _⟩ => ⟨S128x1, .i32⟩
  | .hbm, ⟨18, _⟩ => ⟨S128x1, .i1⟩
  | .hbm, ⟨19, _⟩ => ⟨S128x1, .i1⟩
  | .hbm, ⟨20, _⟩ => ⟨S_, .i1⟩
  | .hbm, ⟨21, _⟩ => ⟨S128, .i1⟩
  | .hbm, ⟨22, _⟩ => ⟨S4096x26x128, .f32⟩
  | .hbm, ⟨23, _⟩ => ⟨S4096x26x128, .i1⟩
  | .hbm, ⟨24, _⟩ => ⟨S_, .f32⟩
  | .hbm, ⟨25, _⟩ => ⟨S4096x26x128, .f32⟩
  | .hbm, ⟨26, _⟩ => ⟨S4096x26x128, .f32⟩
  | .hbm, ⟨27, _⟩ => ⟨S4096x26x128, .f32⟩
  | .hbm, ⟨28, _⟩ => ⟨S1x1x128, .f32⟩
  | .hbm, ⟨29, _⟩ => ⟨S4096x26x128, .f32⟩
  | .hbm, ⟨30, _⟩ => ⟨S4096x26x128, .f32⟩
  | _, _ => ⟨S4096x26x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Names.lean ====
/- The pieces the kernel moves, and the names the proof gives them.

   The kernel streams the array `main_v3` in eight blocks of 13312 rows through four slots of the scratch
   `cc0_scratch0`, and writes the array `main_v4` block by block out of the four slots of `cc0_scratch1`. Here each
   slot, each block and each semaphore cell gets a name that depends on its number only, and the places where the
   program spells one of them by a computed offset are rewritten to that name. -/
module

public import Idealize.ShloMosaic.Lib.VecWindow
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

instance : NeZero grid0.N := ⟨by rw [N_0]; decide⟩

/-! ## The memrefs -/

/-- The scratch the blocks of the input land in, the scratch the results are computed in, and the scratch that keeps
    the permuted weights; the input and the output array. -/
abbrev xsM : Memref sig .tc .vmem S4x13312x128 .f32 := Memref.whole cc0_scratch0
abbrev ysM : Memref sig .tc .vmem S4x13312x128 .f32 := Memref.whole cc0_scratch1
abbrev wpM : Memref sig .tc .vmem S128x128 .f32 := Memref.whole cc0_scratch2
abbrev xM : Memref sig .tc .hbm S106496x128 .f32 := Memref.whole main_v3
abbrev oM : Memref sig .tc .hbm S106496x128 .f32 := Memref.whole main_v4

/-- A slot lies inside its scratch. -/
theorem slot_inb (s : Fin 4) : ∀ a, (![s.val, 0, 0] : Fin 3 → Nat) a + S1x13312x128.size a ≤ S4x13312x128.size a := by
  have := s.isLt; intro a; fin_cases a <;> simp <;> omega
/-- A block lies inside its array. -/
theorem block_inb (b : Fin 8) : ∀ a, (![13312 * b.val, 0] : Fin 2 → Nat) a + S13312x128.size a ≤ S106496x128.size a := by
  have := b.isLt; intro a; fin_cases a <;> simp <;> omega
/-- A cell lies inside its row of cells. -/
theorem cell_inb (s : Fin 4) : ∀ a, (![s.val] : Fin 1 → Nat) a + S1.size a ≤ S4.size a := by
  have := s.isLt; intro a; fin_cases a <;> simp <;> omega

/-- Slot `s` of a scratch of four slots, and block `b` of an array of eight blocks. -/
def xSlot (s : Fin 4) : Memref sig .tc .vmem S13312x128 .f32 :=
  (xsM.slice (Rect.unit (s := S4x13312x128) ![s.val, 0, 0] S1x13312x128.size (slot_inb s)) (fun _ => rfl)).squeeze S13312x128 squeezes_S1x13312x128_S13312x128
def ySlot (s : Fin 4) : Memref sig .tc .vmem S13312x128 .f32 :=
  (ysM.slice (Rect.unit (s := S4x13312x128) ![s.val, 0, 0] S1x13312x128.size (slot_inb s)) (fun _ => rfl)).squeeze S13312x128 squeezes_S1x13312x128_S13312x128
def xBlock (b : Fin 8) : Memref sig .tc .hbm S13312x128 .f32 :=
  xM.slice (Rect.unit (s := S106496x128) ![13312 * b.val, 0] S13312x128.size (block_inb b)) (fun _ => rfl)
def oBlock (b : Fin 8) : Memref sig .tc .hbm S13312x128 .f32 :=
  oM.slice (Rect.unit (s := S106496x128) ![13312 * b.val, 0] S13312x128.size (block_inb b)) (fun _ => rfl)

/-- The cell that counts the copies into slot `s`, and the one that counts the copies out of it. -/
def xCellA (s : Fin 4) : DmaSems sig S_ := (cc0_scratch3.slice (Rect.unit (s := S4) ![s.val] S1.size (cell_inb s))).squeeze S_ squeezes_S1_S_
def yCellA (s : Fin 4) : DmaSems sig S_ := (cc0_scratch4.slice (Rect.unit (s := S4) ![s.val] S1.size (cell_inb s))).squeeze S_ squeezes_S1_S_
abbrev xCell (s : Fin 4) : SemLoc sig := SemLoc.dma (xCellA s).sem
abbrev yCell (s : Fin 4) : SemLoc sig := SemLoc.dma (yCellA s).sem

/-! ## What is owned of them -/

section Owned
variable (c : Dev nD)

/-- The contents of the buffer under a memref. -/
abbrev Cont {sp : Space} {S : Shape} {e : EltTy} (M : Memref sig .tc sp S e) : Type := Buf (Elt F) (M.view.loc (c : Thread nD τ))

/-- The elements of a memref held at the contents `f`. -/
abbrev held {sp : Space} {S : Shape} {e : EltTy} (M : Memref sig .tc sp S e) (f : Cont (F := F) c M) : sProp 𝕄 :=
  M.view.loc (c : Thread nD τ) ↦[M.view.set]{fullShare} f
/-- A semaphore cell at zero. -/
abbrev idle (x : SemLoc sig) : sProp 𝕄 := semVal ((c : Thread nD τ), x) 0

variable (X : Cont (F := F) c xM)

/-- Block `b` of the input, in place. -/
abbrev xHome (b : Fin 8) : sProp 𝕄 := held c (xBlock b) X
/-- Block `b` on its way into slot `s`. -/
abbrev xFlight (s : Fin 4) (b : Fin 8) : sProp 𝕄 :=
  iprop(∃ f, ⌜(xSlot s).view.read (Elt F) f = (xBlock b).view.read (Elt F) X⌝ ∗
    Transfers.Flight countersEmb (c : Thread nD τ) (xCell s) default 212992
      iprop(held c (xSlot s) f ∗ xHome c X b))
/-- Slot `s` at rest, whatever it holds. -/
abbrev xFree (s : Fin 4) : sProp 𝕄 := iprop(idle c (xCell s) ∗ ∃ f, held (F := F) c (xSlot s) f)
/-- The same of an output slot. -/
abbrev yFree (s : Fin 4) : sProp 𝕄 := iprop(idle c (yCell s) ∗ ∃ f, held (F := F) c (ySlot s) f)
/-- Block `b` of the output at any contents; and at the contents that read as `o`. -/
abbrev oAny (b : Fin 8) : sProp 𝕄 := iprop(∃ f, held (F := F) c (oBlock b) f)
abbrev oDone (o : Vec F S13312x128 .f32) (b : Fin 8) : sProp 𝕄 := iprop(∃ f, ⌜(oBlock b).view.read (Elt F) f = o⌝ ∗ held (F := F) c (oBlock b) f)
/-- The rows `o` on their way from slot `s` to block `b` of the output. -/
abbrev yFlight (o : Vec F S13312x128 .f32) (s : Fin 4) (b : Fin 8) : sProp 𝕄 :=
  iprop(∃ f e, ⌜(oBlock b).view.read (Elt F) f = o⌝ ∗
    Transfers.Flight countersEmb (c : Thread nD τ) (yCell s) default 212992
      iprop(held c (oBlock b) f ∗ held c (ySlot s) e))

/-- A copy in that will leave the slot reading as block `b` is block `b` on its way. -/
theorem xFlight_intro (s : Fin 4) (b : Fin 8) (f : Cont (F := F) c (xSlot s))
    (h : (xSlot s).view.read (Elt F) f = (xBlock b).view.read (Elt F) X) :
    Transfers.Flight countersEmb (c : Thread nD τ) (xCell s) default 212992
      iprop(held c (xSlot s) f ∗ xHome c X b) ⊢ xFlight c X s b := by
  iintro H
  iexists f
  isplitr
  · ipureintro; exact h
  · iexact H

/-- A copy out that will leave block `b` reading as `o` is the rows `o` on their way. -/
theorem yFlight_intro (o : Vec F S13312x128 .f32) (s : Fin 4) (b : Fin 8) (f : Cont (F := F) c (oBlock b)) (e : Cont (F := F) c (ySlot s))
    (h : (oBlock b).view.read (Elt F) f = o) :
    Transfers.Flight countersEmb (c : Thread nD τ) (yCell s) default 212992
      iprop(held c (oBlock b) f ∗ held c (ySlot s) e) ⊢ yFlight c o s b := by
  iintro H
  iexists f, e
  isplitr
  · ipureintro; exact h
  · iexact H
end Owned

/-! ## The branches of the body -/

/-- The body's first branch is taken at the first point, its last one at the last point. -/
abbrev isFirst (i : grid0.Coords) : Prop := (Scalar.cmpi .ne (Scalar.extui (Scalar.cmpi .eq (BitVec.ofNat 32 (i 0).val) 0#32)) 0#32) = 1#1
abbrev isLast (i : grid0.Coords) : Prop := (Scalar.cmpi .ne (Scalar.extui (Scalar.cmpi .eq (BitVec.ofNat 32 (i 0).val) 7#32)) 0#32) = 1#1
/-- The first branch's condition holds at point 0 alone. -/
theorem isFirst_iff : ∀ t : Fin grid0.N, isFirst (grid0.coords t) ↔ t.val = 0 := by decide +kernel
/-- The last branch's condition holds at point 7 alone. -/
theorem isLast_iff : ∀ t : Fin grid0.N, isLast (grid0.coords t) ↔ t.val = 7 := by decide +kernel
/-- A point waits for an earlier copy out of its slot from point 4 on. -/
theorem cond2_iff : ∀ t : Fin grid0.N, k0_cond2 (grid0.coords t) = 1#1 ↔ 4 ≤ t.val := by decide +kernel
/-- A point starts another copy into its slot before point 4. -/
theorem cond3_iff : ∀ t : Fin grid0.N, k0_cond3 (grid0.coords t) = 1#1 ↔ t.val < 4 := by decide +kernel

/-! ## The program's spellings, rewritten to the names -/

/-- Each offset that the program computes at point `t` is that of slot `t mod 4`, or of block `t`, `t - 4` or `t + 4`. -/
theorem off1_at : ∀ t : Fin grid0.N, k0_off1 (grid0.coords t) = ![(Ring.sl 4 t.val).val] := by decide +kernel
theorem off2_at : ∀ t : Fin grid0.N, k0_off2 (grid0.coords t) = ![(Ring.sl 4 t.val).val, 0, 0] := by decide +kernel
theorem off3_at : ∀ t : Fin grid0.N, k0_off3 (grid0.coords t) = ![13312 * (Ring.bk 8 t.val).val, 0] := by decide +kernel
theorem off4_at : ∀ t : Fin grid0.N, k0_off4 (grid0.coords t) = ![(Ring.sl 4 t.val).val] := by decide +kernel
theorem off5_at : ∀ t : Fin grid0.N, k0_cond2 (grid0.coords t) = 1#1 → k0_off5 (grid0.coords t) = ![13312 * (Ring.bk 8 (t.val - 4)).val, 0] := by decide +kernel
theorem off6_at : ∀ t : Fin grid0.N, k0_off6 (grid0.coords t) = ![(Ring.sl 4 t.val).val, 0, 0] := by decide +kernel
theorem off7_at : ∀ t : Fin grid0.N, k0_off7 (grid0.coords t) = ![(Ring.sl 4 t.val).val, 0, 0] := by decide +kernel
theorem off8_at : ∀ t : Fin grid0.N, k0_off8 (grid0.coords t) = ![(Ring.sl 4 t.val).val] := by decide +kernel
theorem off9_at : ∀ t : Fin grid0.N, k0_off9 (grid0.coords t) = ![(Ring.sl 4 t.val).val, 0, 0] := by decide +kernel
theorem off10_at : ∀ t : Fin grid0.N, k0_cond3 (grid0.coords t) = 1#1 → k0_off10 (grid0.coords t) = ![13312 * (Ring.bk 8 (t.val + 4)).val, 0] := by decide +kernel

/-- A slot, a block or a cell spelt by an offset that is the named one's IS the named one. -/
theorem xSlot_of (s : Fin 4) {o : Fin 3 → Nat} (ho : o = ![s.val, 0, 0]) (h) :
    (xsM.slice (Rect.unit (s := S4x13312x128) o S1x13312x128.size h) (fun _ => rfl)).squeeze S13312x128 squeezes_S1x13312x128_S13312x128 = xSlot s := by
  subst ho; rfl
theorem ySlot_of (s : Fin 4) {o : Fin 3 → Nat} (ho : o = ![s.val, 0, 0]) (h) :
    (ysM.slice (Rect.unit (s := S4x13312x128) o S1x13312x128.size h) (fun _ => rfl)).squeeze S13312x128 squeezes_S1x13312x128_S13312x128 = ySlot s := by
  subst ho; rfl
theorem xBlock_of (b : Fin 8) {o : Fin 2 → Nat} (ho : o = ![13312 * b.val, 0]) (h) :
    xM.slice (Rect.unit (s := S106496x128) o S13312x128.size h) (fun _ => rfl) = xBlock b := by
  subst ho; rfl
theorem oBlock_of (b : Fin 8) {o : Fin 2 → Nat} (ho : o = ![13312 * b.val, 0]) (h) :
    oM.slice (Rect.unit (s := S106496x128) o S13312x128.size h) (fun _ => rfl) = oBlock b := by
  subst ho; rfl
theorem xCell_of (s : Fin 4) {o : Fin 1 → Nat} (ho : o = ![s.val]) (h) :
    (cc0_scratch3.slice (Rect.unit (s := S4) o S1.size h)).squeeze S_ squeezes_S1_S_ = xCellA s := by
  subst ho; rfl
theorem yCell_of (s : Fin 4) {o : Fin 1 → Nat} (ho : o = ![s.val]) (h) :
    (cc0_scratch4.slice (Rect.unit (s := S4) o S1.size h)).squeeze S_ squeezes_S1_S_ = yCellA s := by
  subst ho; rfl

section Canon
variable (t : Fin grid0.N)

@[sl_canon] theorem xCell_off1 (h) : (cc0_scratch3.slice (Rect.unit (s := S4) (k0_off1 (grid0.coords t)) S1.size h)).squeeze S_ squeezes_S1_S_ = xCellA (Ring.sl 4 t.val) := xCell_of _ (off1_at t) h
@[sl_canon] theorem xCell_off1' (h) : (cc0_scratch3.slice (Rect.unit (s := S4) (k0_off1 (grid0.coords t)) ![1] h)).squeeze S_ squeezes_S1_S_ = xCellA (Ring.sl 4 t.val) := xCell_of _ (off1_at t) h
@[sl_canon] theorem yCell_off1 (h) : (cc0_scratch4.slice (Rect.unit (s := S4) (k0_off1 (grid0.coords t)) S1.size h)).squeeze S_ squeezes_S1_S_ = yCellA (Ring.sl 4 t.val) := yCell_of _ (off1_at t) h
@[sl_canon] theorem yCell_off1' (h) : (cc0_scratch4.slice (Rect.unit (s := S4) (k0_off1 (grid0.coords t)) ![1] h)).squeeze S_ squeezes_S1_S_ = yCellA (Ring.sl 4 t.val) := yCell_of _ (off1_at t) h
@[sl_canon] theorem xSlot_off2 (h) : (xsM.slice (Rect.unit (s := S4x13312x128) (k0_off2 (grid0.coords t)) S1x13312x128.size h) (fun _ => rfl)).squeeze S13312x128 squeezes_S1x13312x128_S13312x128 = xSlot (Ring.sl 4 t.val) := xSlot_of _ (off2_at t) h
@[sl_canon] theorem xSlot_off2' (h) : (xsM.slice (Rect.unit (s := S4x13312x128) (k0_off2 (grid0.coords t)) ![1, 13312, 128] h) (fun _ => rfl)).squeeze S13312x128 squeezes_S1x13312x128_S13312x128 = xSlot (Ring.sl 4 t.val) := xSlot_of _ (off2_at t) h
@[sl_canon] theorem ySlot_off2 (h) : (ysM.slice (Rect.unit (s := S4x13312x128) (k0_off2 (grid0.coords t)) S1x13312x128.size h) (fun _ => rfl)).squeeze S13312x128 squeezes_S1x13312x128_S13312x128 = ySlot (Ring.sl 4 t.val) := ySlot_of _ (off2_at t) h
@[sl_canon] theorem ySlot_off2' (h) : (ysM.slice (Rect.unit (s := S4x13312x128) (k0_off2 (grid0.coords t)) ![1, 13312, 128] h) (fun _ => rfl)).squeeze S13312x128 squeezes_S1x13312x128_S13312x128 = ySlot (Ring.sl 4 t.val) := ySlot_of _ (off2_at t) h
@[sl_canon] theorem xBlock_off3 (h) : xM.slice (Rect.unit (s := S106496x128) (k0_off3 (grid0.coords t)) S13312x128.size h) (fun _ => rfl) = xBlock (Ring.bk 8 t.val) := xBlock_of _ (off3_at t) h
@[sl_canon] theorem xBlock_off3' (h) : xM.slice (Rect.unit (s := S106496x128) (k0_off3 (grid0.coords t)) ![13312, 128] h) (fun _ => rfl) = xBlock (Ring.bk 8 t.val) := xBlock_of _ (off3_at t) h
@[sl_canon] theorem oBlock_off3 (h) : oM.slice (Rect.unit (s := S106496x128) (k0_off3 (grid0.coords t)) S13312x128.size h) (fun _ => rfl) = oBlock (Ring.bk 8 t.val) := oBlock_of _ (off3_at t) h
@[sl_canon] theorem oBlock_off3' (h) : oM.slice (Rect.unit (s := S106496x128) (k0_off3 (grid0.coords t)) ![13312, 128] h) (fun _ => rfl) = oBlock (Ring.bk 8 t.val) := oBlock_of _ (off3_at t) h
@[sl_canon] theorem yCell_off4 (h) : (cc0_scratch4.slice (Rect.unit (s := S4) (k0_off4 (grid0.coords t)) S1.size h)).squeeze S_ squeezes_S1_S_ = yCellA (Ring.sl 4 t.val) := yCell_of _ (off4_at t) h
@[sl_canon] theorem yCell_off4' (h) : (cc0_scratch4.slice (Rect.unit (s := S4) (k0_off4 (grid0.coords t)) ![1] h)).squeeze S_ squeezes_S1_S_ = yCellA (Ring.sl 4 t.val) := yCell_of _ (off4_at t) h
@[sl_canon] theorem oBlock_off5 (h2 : k0_cond2 (grid0.coords t) = 1#1) (h) : oM.slice (Rect.unit (s := S106496x128) (k0_off5 (grid0.coords t)) S13312x128.size h) (fun _ => rfl) = oBlock (Ring.bk 8 (t.val - 4)) := oBlock_of _ (off5_at t h2) h
@[sl_canon] theorem oBlock_off5' (h2 : k0_cond2 (grid0.coords t) = 1#1) (h) : oM.slice (Rect.unit (s := S106496x128) (k0_off5 (grid0.coords t)) ![13312, 128] h) (fun _ => rfl) = oBlock (Ring.bk 8 (t.val - 4)) := oBlock_of _ (off5_at t h2) h
@[sl_canon] theorem ySlot_off6 (h) : (ysM.slice (Rect.unit (s := S4x13312x128) (k0_off6 (grid0.coords t)) S1x13312x128.size h) (fun _ => rfl)).squeeze S13312x128 squeezes_S1x13312x128_S13312x128 = ySlot (Ring.sl 4 t.val) := ySlot_of _ (off6_at t) h
@[sl_canon] theorem ySlot_off6' (h) : (ysM.slice (Rect.unit (s := S4x13312x128) (k0_off6 (grid0.coords t)) ![1, 13312, 128] h) (fun _ => rfl)).squeeze S13312x128 squeezes_S1x13312x128_S13312x128 = ySlot (Ring.sl 4 t.val) := ySlot_of _ (off6_at t) h
@[sl_canon] theorem xCell_off8 (h) : (cc0_scratch3.slice (Rect.unit (s := S4) (k0_off8 (grid0.coords t)) S1.size h)).squeeze S_ squeezes_S1_S_ = xCellA (Ring.sl 4 t.val) := xCell_of _ (off8_at t) h
@[sl_canon] theorem xCell_off8' (h) : (cc0_scratch3.slice (Rect.unit (s := S4) (k0_off8 (grid0.coords t)) ![1] h)).squeeze S_ squeezes_S1_S_ = xCellA (Ring.sl 4 t.val) := xCell_of _ (off8_at t) h
@[sl_canon] theorem xSlot_off9 (h) : (xsM.slice (Rect.unit (s := S4x13312x128) (k0_off9 (grid0.coords t)) S1x13312x128.size h) (fun _ => rfl)).squeeze S13312x128 squeezes_S1x13312x128_S13312x128 = xSlot (Ring.sl 4 t.val) := xSlot_of _ (off9_at t) h
@[sl_canon] theorem xSlot_off9' (h) : (xsM.slice (Rect.unit (s := S4x13312x128) (k0_off9 (grid0.coords t)) ![1, 13312, 128] h) (fun _ => rfl)).squeeze S13312x128 squeezes_S1x13312x128_S13312x128 = xSlot (Ring.sl 4 t.val) := xSlot_of _ (off9_at t) h
@[sl_canon] theorem xBlock_off10 (h3 : k0_cond3 (grid0.coords t) = 1#1) (h) : xM.slice (Rect.unit (s := S106496x128) (k0_off10 (grid0.coords t)) S13312x128.size h) (fun _ => rfl) = xBlock (Ring.bk 8 (t.val + 4)) := xBlock_of _ (off10_at t h3) h
@[sl_canon] theorem xBlock_off10' (h3 : k0_cond3 (grid0.coords t) = 1#1) (h) : xM.slice (Rect.unit (s := S106496x128) (k0_off10 (grid0.coords t)) ![13312, 128] h) (fun _ => rfl) = xBlock (Ring.bk 8 (t.val + 4)) := xBlock_of _ (off10_at t h3) h

/-- The load of a slot and the store into one are at the slot's own box. -/
instance (priority := high) closed_off7 : ClosedOff (k0_off7 (grid0.coords t)) := ⟨![(Ring.sl 4 t.val).val, 0, 0], off7_at t⟩
/-! The first point starts the first four copies in, each at a literal place; the last point waits for the last four copies out, the same way. -/

/-- At the first point the slot `k` points on has the number `k`. -/
theorem sl_first (h0 : isFirst (grid0.coords t)) (k : ℕ) (hk : k < 4) : (Ring.sl 4 (t.val + k)).val = k := by
  have := (isFirst_iff t).1 h0
  show (t.val + k) % 4 = k
  omega
/-- At the first point the block `k` points on has the number `k`. -/
theorem bk_first (h0 : isFirst (grid0.coords t)) (k : ℕ) (hk : k < 8) : (Ring.bk 8 (t.val + k)).val = k := by
  have := (isFirst_iff t).1 h0
  show (t.val + k) % 8 = k
  omega
/-- At the last point the slots, counted from the one after its own, have the numbers 0 to 3. -/
theorem sl_last (h0 : isLast (grid0.coords t)) (n k : ℕ) (hn : n % 4 = (t.val + 1 + k) % 4) (hk : k < 4) : (Ring.sl 4 n).val = k := by
  have := (isLast_iff t).1 h0
  show n % 4 = k
  omega
/-- At the last point the last four blocks have the numbers 4 to 7. -/
theorem bk_last (h0 : isLast (grid0.coords t)) (n k : ℕ) (hn : n + 3 = t.val + k) (hk : k < 4) : (Ring.bk 8 n).val = 4 + k := by
  have := (isLast_iff t).1 h0
  show n % 8 = 4 + k
  omega

@[sl_canon] theorem xCell_lit0 (h0 : isFirst (grid0.coords t)) (h) : (cc0_scratch3.slice (Rect.unit (s := S4) ![0] S1.size h)).squeeze S_ squeezes_S1_S_ = xCellA (Ring.sl 4 t.val) := xCell_of _ (by rw [← Nat.add_zero t.val, sl_first t h0 0 (by omega)]) h
@[sl_canon] theorem xSlot_lit0 (h0 : isFirst (grid0.coords t)) (h) : (xsM.slice (Rect.unit (s := S4x13312x128) ![0, 0, 0] S1x13312x128.size h) (fun _ => rfl)).squeeze S13312x128 squeezes_S1x13312x128_S13312x128 = xSlot (Ring.sl 4 t.val) := xSlot_of _ (by rw [← Nat.add_zero t.val, sl_first t h0 0 (by omega)]) h
@[sl_canon] theorem xBlock_lit0 (h0 : isFirst (grid0.coords t)) (h) : xM.slice (Rect.unit (s := S106496x128) ![0, 0] S13312x128.size h) (fun _ => rfl) = xBlock (Ring.bk 8 t.val) := xBlock_of _ (by rw [← Nat.add_zero t.val, bk_first t h0 0 (by omega)]) h
@[sl_canon] theorem xCell_lit1 (h0 : isFirst (grid0.coords t)) (h) : (cc0_scratch3.slice (Rect.unit (s := S4) ![1] S1.size h)).squeeze S_ squeezes_S1_S_ = xCellA (Ring.sl 4 (t.val + 1)) := xCell_of _ (by rw [sl_first t h0 1 (by omega)]) h
@[sl_canon] theorem xSlot_lit1 (h0 : isFirst (grid0.coords t)) (h) : (xsM.slice (Rect.unit (s := S4x13312x128) ![1, 0, 0] S1x13312x128.size h) (fun _ => rfl)).squeeze S13312x128 squeezes_S1x13312x128_S13312x128 = xSlot (Ring.sl 4 (t.val + 1)) := xSlot_of _ (by rw [sl_first t h0 1 (by omega)]) h
@[sl_canon] theorem xBlock_lit1 (h0 : isFirst (grid0.coords t)) (h) : xM.slice (Rect.unit (s := S106496x128) ![13312, 0] S13312x128.size h) (fun _ => rfl) = xBlock (Ring.bk 8 (t.val + 1)) := xBlock_of _ (by rw [bk_first t h0 1 (by omega)]) h
@[sl_canon] theorem xCell_lit2 (h0 : isFirst (grid0.coords t)) (h) : (cc0_scratch3.slice (Rect.unit (s := S4) ![2] S1.size h)).squeeze S_ squeezes_S1_S_ = xCellA (Ring.sl 4 (t.val + 2)) := xCell_of _ (by rw [sl_first t h0 2 (by omega)]) h
@[sl_canon] theorem xSlot_lit2 (h0 : isFirst (grid0.coords t)) (h) : (xsM.slice (Rect.unit (s := S4x13312x128) ![2, 0, 0] S1x13312x128.size h) (fun _ => rfl)).squeeze S13312x128 squeezes_S1x13312x128_S13312x128 = xSlot (Ring.sl 4 (t.val + 2)) := xSlot_of _ (by rw [sl_first t h0 2 (by omega)]) h
@[sl_canon] theorem xBlock_lit2 (h0 : isFirst (grid0.coords t)) (h) : xM.slice (Rect.unit (s := S106496x128) ![26624, 0] S13312x128.size h) (fun _ => rfl) = xBlock (Ring.bk 8 (t.val + 2)) := xBlock_of _ (by rw [bk_first t h0 2 (by omega)]) h
@[sl_canon] theorem xCell_lit3 (h0 : isFirst (grid0.coords t)) (h) : (cc0_scratch3.slice (Rect.unit (s := S4) ![3] S1.size h)).squeeze S_ squeezes_S1_S_ = xCellA (Ring.sl 4 (t.val + 3)) := xCell_of _ (by rw [sl_first t h0 3 (by omega)]) h
@[sl_canon] theorem xSlot_lit3 (h0 : isFirst (grid0.coords t)) (h) : (xsM.slice (Rect.unit (s := S4x13312x128) ![3, 0, 0] S1x13312x128.size h) (fun _ => rfl)).squeeze S13312x128 squeezes_S1x13312x128_S13312x128 = xSlot (Ring.sl 4 (t.val + 3)) := xSlot_of _ (by rw [sl_first t h0 3 (by omega)]) h
@[sl_canon] theorem xBlock_lit3 (h0 : isFirst (grid0.coords t)) (h) : xM.slice (Rect.unit (s := S106496x128) ![39936, 0] S13312x128.size h) (fun _ => rfl) = xBlock (Ring.bk 8 (t.val + 3)) := xBlock_of _ (by rw [bk_first t h0 3 (by omega)]) h
@[sl_canon] theorem yCell_lit0 (h0 : isLast (grid0.coords t)) (h) : (cc0_scratch4.slice (Rect.unit (s := S4) ![0] ![1] h)).squeeze S_ squeezes_S1_S_ = yCellA (Ring.sl 4 (t.val + 1)) := yCell_of _ (by rw [sl_last t h0 _ 0 (by omega) (by omega)]) h
@[sl_canon] theorem ySlot_lit0 (h0 : isLast (grid0.coords t)) (h) : (ysM.slice (Rect.unit (s := S4x13312x128) ![0, 0, 0] ![1, 13312, 128] h) (fun _ => rfl)).squeeze S13312x128 squeezes_S1x13312x128_S13312x128 = ySlot (Ring.sl 4 (t.val + 1)) := ySlot_of _ (by rw [sl_last t h0 _ 0 (by omega) (by omega)]) h
@[sl_canon] theorem oBlock_lit0 (h0 : isLast (grid0.coords t)) (h) : oM.slice (Rect.unit (s := S106496x128) ![53248, 0] ![13312, 128] h) (fun _ => rfl) = oBlock (Ring.bk 8 (t.val - 3)) := oBlock_of _ (by rw [bk_last t h0 _ 0 (by have := (isLast_iff t).1 h0; omega) (by omega)]) h
@[sl_canon] theorem yCell_lit1 (h0 : isLast (grid0.coords t)) (h) : (cc0_scratch4.slice (Rect.unit (s := S4) ![1] ![1] h)).squeeze S_ squeezes_S1_S_ = yCellA (Ring.sl 4 (t.val + 2)) := yCell_of _ (by rw [sl_last t h0 _ 1 (by omega) (by omega)]) h
@[sl_canon] theorem ySlot_lit1 (h0 : isLast (grid0.coords t)) (h) : (ysM.slice (Rect.unit (s := S4x13312x128) ![1, 0, 0] ![1, 13312, 128] h) (fun _ => rfl)).squeeze S13312x128 squeezes_S1x13312x128_S13312x128 = ySlot (Ring.sl 4 (t.val + 2)) := ySlot_of _ (by rw [sl_last t h0 _ 1 (by omega) (by omega)]) h
@[sl_canon] theorem oBlock_lit1 (h0 : isLast (grid0.coords t)) (h) : oM.slice (Rect.unit (s := S106496x128) ![66560, 0] ![13312, 128] h) (fun _ => rfl) = oBlock (Ring.bk 8 (t.val - 2)) := oBlock_of _ (by rw [bk_last t h0 _ 1 (by have := (isLast_iff t).1 h0; omega) (by omega)]) h
@[sl_canon] theorem yCell_lit2 (h0 : isLast (grid0.coords t)) (h) : (cc0_scratch4.slice (Rect.unit (s := S4) ![2] ![1] h)).squeeze S_ squeezes_S1_S_ = yCellA (Ring.sl 4 (t.val + 3)) := yCell_of _ (by rw [sl_last t h0 _ 2 (by omega) (by omega)]) h
@[sl_canon] theorem ySlot_lit2 (h0 : isLast (grid0.coords t)) (h) : (ysM.slice (Rect.unit (s := S4x13312x128) ![2, 0, 0] ![1, 13312, 128] h) (fun _ => rfl)).squeeze S13312x128 squeezes_S1x13312x128_S13312x128 = ySlot (Ring.sl 4 (t.val + 3)) := ySlot_of _ (by rw [sl_last t h0 _ 2 (by omega) (by omega)]) h
@[sl_canon] theorem oBlock_lit2 (h0 : isLast (grid0.coords t)) (h) : oM.slice (Rect.unit (s := S106496x128) ![79872, 0] ![13312, 128] h) (fun _ => rfl) = oBlock (Ring.bk 8 (t.val - 1)) := oBlock_of _ (by rw [bk_last t h0 _ 2 (by have := (isLast_iff t).1 h0; omega) (by omega)]) h
@[sl_canon] theorem yCell_lit3 (h0 : isLast (grid0.coords t)) (h) : (cc0_scratch4.slice (Rect.unit (s := S4) ![3] ![1] h)).squeeze S_ squeezes_S1_S_ = yCellA (Ring.sl 4 t.val) := yCell_of _ (by rw [sl_last t h0 _ 3 (by omega) (by omega)]) h
@[sl_canon] theorem ySlot_lit3 (h0 : isLast (grid0.coords t)) (h) : (ysM.slice (Rect.unit (s := S4x13312x128) ![3, 0, 0] ![1, 13312, 128] h) (fun _ => rfl)).squeeze S13312x128 squeezes_S1x13312x128_S13312x128 = ySlot (Ring.sl 4 t.val) := ySlot_of _ (by rw [sl_last t h0 _ 3 (by omega) (by omega)]) h
@[sl_canon] theorem oBlock_lit3 (h0 : isLast (grid0.coords t)) (h) : oM.slice (Rect.unit (s := S106496x128) ![93184, 0] ![13312, 128] h) (fun _ => rfl) = oBlock (Ring.bk 8 t.val) := oBlock_of _ (by rw [bk_last t h0 _ 3 (by have := (isLast_iff t).1 h0; omega) (by omega)]) h
end Canon

/-- A memref written whole reads what was written, whatever was written before. -/
theorem read_whole {κ : Kind} {sp : Space} {S : Shape} {e : EltTy} (v : View sig κ sp S e) (f : v.ty.Contents (Elt F)) (x : S.Idx → Elt F e) (L) :
    v.read (Elt F) (v.writes (Elt F) f (⟨Rect.whole S, x⟩ :: L)) = x := by
  funext y
  have h := View.read_writes_cons_emb v f (Rect.whole S) x L y
  rwa [Rect.emb_whole_apply] at h

/-! ## The rows a point writes -/

/-- The rows a point writes to its block of the output, from the rows of its block of the input, the table it has built and the bias. -/
def rows (x : Vec F S13312x128 .f32) (w : Vec F S128x128 .f32) (bias : Vec F S1x128 .f32) : Vec F S13312x128 .f32 :=
  fun y => k0_pay2 (fun z => x ((Shape.reshapeEquiv squeezes_S1x13312x128_S13312x128.numel_eq).symm z)) w bias
    (Shape.reshapeEquiv squeezes_S1x13312x128_S13312x128.numel_eq y)

/-- What is loaded from slot `s` of the input scratch: the slot's rows. -/
theorem load_slot (c : Dev nD) (s : Fin 4) {o : Fin 3 → Nat} (ho : o = ![s.val, 0, 0]) (h) (f : Cont (F := F) c xsM) :
    xsM.view.readAt (Elt F) (Rect.unit (s := S4x13312x128) o S1x13312x128.size h).toLoadRect f
      = fun z => (xSlot s).view.read (Elt F) f ((Shape.reshapeEquiv squeezes_S1x13312x128_S13312x128.numel_eq).symm z) := by
  subst ho
  funext z
  exact congrArg ((xsM.slice (Rect.unit (s := S4x13312x128) ![s.val, 0, 0] S1x13312x128.size h) (fun _ => rfl)).view.read (Elt F) f)
    (Equiv.apply_symm_apply _ z).symm

/-- What slot `s` of the output scratch reads after a store to it. -/
theorem store_slot (c : Dev nD) (s : Fin 4) {o : Fin 3 → Nat} (ho : o = ![s.val, 0, 0]) (h) (f : Cont (F := F) c ysM) (p : Vec F S1x13312x128 .f32) :
    (ySlot s).view.read (Elt F) ((ysM.access (Rect.unit (s := S4x13312x128) o S1x13312x128.size h)).write (Elt F) f p Finset.univ)
      = fun y => p (Shape.reshapeEquiv squeezes_S1x13312x128_S13312x128.numel_eq y) := by
  subst ho
  funext y
  exact congrFun (View.read_write_univ (v := ysM.view.slice (Rect.unit (s := S4x13312x128) ![s.val, 0, 0] S1x13312x128.size h)) f p) _

/-- The copy out of slot `s`, after the store of what the slot's rows, the table and the bias give, delivers these rows. -/
theorem out_rows_of (c : Dev nD) (s : Fin 4) (b : Fin 8) {o : Fin 3 → Nat} (ho : o = ![s.val, 0, 0]) (h)
    (x : Vec F S13312x128 .f32) (w w' : Vec F S128x128 .f32) (bias bias' : Vec F S1x128 .f32) (x' : Vec F S1x13312x128 .f32)
    (fy : Cont (F := F) c ysM) (fo : Cont (F := F) c (oBlock b))
    (hx : x' = fun z => x ((Shape.reshapeEquiv squeezes_S1x13312x128_S13312x128.numel_eq).symm z)) (hw : w' = w) (hb : bias' = bias) :
    (oBlock b).view.read (Elt F) ((oBlock b).view.writes (Elt F) fo [⟨Rect.whole S13312x128, ReadAs.same.apply ((ySlot s).view.read (Elt F)
      ((ysM.access (Rect.unit (s := S4x13312x128) o S1x13312x128.size h)).write (Elt F) fy (k0_pay2 x' w' bias') Finset.univ))⟩]) = rows x w bias := by
  subst hx hw hb
  exact (read_whole _ _ _ _).trans (store_slot c s ho h fy _)

/-- The same, from what the loads of the slot, the table and the bias read. -/
theorem out_rows (c : Dev nD) (s : Fin 4) (b : Fin 8) (arg4 : Memref sig .tc .vmem S1x128 .f32) {o : Fin 3 → Nat} (ho : o = ![s.val, 0, 0])
    (h h') (hw) (hb) (x : Vec F S13312x128 .f32) (w : Vec F S128x128 .f32) (bias : Vec F S1x128 .f32) (fx : Cont (F := F) c xsM) (fw : Cont (F := F) c wpM)
    (f4 : Cont (F := F) c arg4) (fy : Cont (F := F) c ysM) (fo : Cont (F := F) c (oBlock b))
    (hfx : (xSlot s).view.read (Elt F) fx = x) (hfw : wpM.view.read (Elt F) fw = w) (hf4 : arg4.view.read (Elt F) f4 = bias) :
    (oBlock b).view.read (Elt F) ((oBlock b).view.writes (Elt F) fo [⟨Rect.whole S13312x128, ReadAs.same.apply ((ySlot s).view.read (Elt F)
      ((ysM.access (Rect.unit (s := S4x13312x128) o S1x13312x128.size h)).write (Elt F) fy
        (k0_pay2 (xsM.view.readAt (Elt F) (Rect.unit (s := S4x13312x128) o S1x13312x128.size h').toLoadRect fx)
          (wpM.view.readAt (Elt F) (Rect.unit (s := S128x128) ![0, 0] S128x128.size hw).toLoadRect fw)
          (arg4.view.readAt (Elt F) (Rect.unit (s := S1x128) ![0, 0] S1x128.size hb).toLoadRect f4)) Finset.univ))⟩]) = rows x w bias :=
  out_rows_of c s b ho h x w _ bias _ _ fy fo (hfx ▸ load_slot c s ho h' fx) ((View.readAt_full _ _ _).trans hfw) ((View.readAt_full _ _ _).trans hf4)

/-- What is loaded from slot `s` of the input scratch once the rows `x` have landed in it. -/
theorem load_landed (c : Dev nD) (s : Fin 4) {o : Fin 3 → Nat} (ho : o = ![s.val, 0, 0]) (h) (f : Cont (F := F) c (xSlot s)) (x : Vec F S13312x128 .f32) :
    xsM.view.readAt (Elt F) (Rect.unit (s := S4x13312x128) o S1x13312x128.size h).toLoadRect
        ((xSlot s).view.writes (Elt F) f [⟨Rect.whole S13312x128, ReadAs.same.apply x⟩])
      = fun z => x ((Shape.reshapeEquiv squeezes_S1x13312x128_S13312x128.numel_eq).symm z) := by
  have e : (xSlot s).view.read (Elt F) ((xSlot s).view.writes (Elt F) f [⟨Rect.whole S13312x128, ReadAs.same.apply x⟩]) = x :=
    read_whole (xSlot s).view f (ReadAs.same.apply x) []
  exact (load_slot c s ho h _).trans (congrArg (fun (x : Vec F S13312x128 .f32) z => x ((Shape.reshapeEquiv squeezes_S1x13312x128_S13312x128.numel_eq).symm z)) e)

/-- What is loaded from the table once `w` has been stored to it, whole. -/
theorem load_table (w w' : Vec F S128x128 .f32) (h) (e : w' = w) :
    wpM.view.readCov (Val := Elt F) [⟨Rect.unit (s := S128x128) ![0, 0] S128x128.size h, w'⟩] (Rect.unit (s := S128x128) ![0, 0] S128x128.size h).toLoadRect = w :=
  (View.readCov_full wpM.view h h w' []).trans e

/-- The rows written to block `b`: those the block of the input `X` gives. -/
abbrev rowsAt (c : Dev nD) (X : Cont (F := F) c xM) (w : Vec F S128x128 .f32) (bias : Vec F S1x128 .f32) (b : Fin 8) : Vec F S13312x128 .f32 :=
  rows ((xBlock b).view.read (Elt F) X) w bias

end Cert.Kernel.Stream

end
-- ==== Proof.Split.lean ====
/- What the launch hands the kernel, cut into the pieces the kernel moves, and put together again.

   A scratch buffer is its four slots, an array of 106496 rows is its eight blocks, and the kernel's own semaphores are
   its eight cells. -/
module

public import proofs.«01_k».proof.Proof.Names
public import Idealize.ShloMosaic.Lib.Pipeline.FrameSuffixV
public import Idealize.ShloMosaic.Lib.ViewIndex

@[expose] public section

set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The elements under a slot and under a block -/

/-- The elements of slot `s` in its scratch, and of block `b` in its array. -/
abbrev slotSet (s : Fin 4) : Finset S4x13312x128.Idx := (Rect.unit (s := S4x13312x128) ![s.val, 0, 0] S1x13312x128.size (slot_inb s)).set
abbrev blockSet (b : Fin 8) : Finset S106496x128.Idx := (Rect.unit (s := S106496x128) ![13312 * b.val, 0] S13312x128.size (block_inb b)).set

/-- The elements under each named slot and block are these. -/
theorem xSlot_set (s : Fin 4) : (xSlot s).view.set = slotSet s := by
  simp only [xSlot, Memref.view_squeeze, View.set_reshape]; exact View.set_slice_whole _ _
theorem ySlot_set (s : Fin 4) : (ySlot s).view.set = slotSet s := by
  simp only [ySlot, Memref.view_squeeze, View.set_reshape]; exact View.set_slice_whole _ _
theorem xBlock_set (b : Fin 8) : (xBlock b).view.set = blockSet b := View.set_slice_whole _ _
theorem oBlock_set (b : Fin 8) : (oBlock b).view.set = blockSet b := View.set_slice_whole _ _

/-- Two slots share no element. -/
theorem slots_disjoint (s s' : Fin 4) (h : s ≠ s') : Disjoint (slotSet s) (slotSet s') :=
  Ring.lead_disjoint (s := S4x13312x128) (0 : Fin 3) 1 (fun s : Fin 4 => (![s.val, 0, 0] : Fin 3 → Nat)) S1x13312x128.size slot_inb (fun s => by simp) rfl s s' h
/-- The four slots make up the scratch. -/
theorem slots_cover : Finset.univ.biUnion slotSet = Finset.univ :=
  Ring.lead_cover (s := S4x13312x128) (0 : Fin 3) 1 (fun s : Fin 4 => (![s.val, 0, 0] : Fin 3 → Nat)) S1x13312x128.size slot_inb (fun s => by simp)
    (fun s a ha => by fin_cases a <;> first | exact absurd rfl ha | rfl) rfl (fun a ha => by fin_cases a <;> first | exact absurd rfl ha | rfl) rfl
/-- Two blocks share no element. -/
theorem blocks_disjoint (b b' : Fin 8) (h : b ≠ b') : Disjoint (blockSet b) (blockSet b') :=
  Ring.lead_disjoint (s := S106496x128) (0 : Fin 2) 13312 (fun b : Fin 8 => (![13312 * b.val, 0] : Fin 2 → Nat)) S13312x128.size block_inb (fun b => by simp) rfl b b' h
/-- The eight blocks make up the array. -/
theorem blocks_cover : Finset.univ.biUnion blockSet = Finset.univ :=
  Ring.lead_cover (s := S106496x128) (0 : Fin 2) 13312 (fun b : Fin 8 => (![13312 * b.val, 0] : Fin 2 → Nat)) S13312x128.size block_inb (fun b => by simp)
    (fun b a ha => by fin_cases a <;> first | exact absurd rfl ha | rfl) rfl (fun a ha => by fin_cases a <;> first | exact absurd rfl ha | rfl) rfl

section Pieces
variable (c : Dev nD)

/-- A held slot of the input scratch is the scratch held on the slot's elements. -/
theorem heldX_eq (s : Fin 4) (f : Cont (F := F) c (xSlot s)) :
    held c (xSlot s) f = (((c : Thread nD τ).loc cc0_scratch0) ↦[slotSet s]{fullShare} f : sProp 𝕄) := by
  unfold held; rw [xSlot_set]; rfl
/-- The same of a slot of the output scratch; -/
theorem heldY_eq (s : Fin 4) (f : Cont (F := F) c (ySlot s)) :
    held c (ySlot s) f = (((c : Thread nD τ).loc cc0_scratch1) ↦[slotSet s]{fullShare} f : sProp 𝕄) := by
  unfold held; rw [ySlot_set]; rfl
/-- of a block of the input; -/
theorem home_eq (b : Fin 8) (f : Cont (F := F) c (xBlock b)) :
    held c (xBlock b) f = (((c : Thread nD τ).loc main_v3) ↦[blockSet b]{fullShare} f : sProp 𝕄) := by
  unfold held; rw [xBlock_set]; rfl
/-- and of a block of the output. -/
theorem heldO_eq (b : Fin 8) (f : Cont (F := F) c (oBlock b)) :
    held c (oBlock b) f = (((c : Thread nD τ).loc main_v4) ↦[blockSet b]{fullShare} f : sProp 𝕄) := by
  unfold held; rw [oBlock_set]; rfl

/-- Four and eight things side by side, one by one. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The input scratch is its slots, at anything. -/
theorem xs_slot (s : Fin 4) : (iprop(∃ f, held (F := F) c (xSlot s) f) : sProp 𝕄)
    = iprop(∃ f : Buf (Elt F) ((c : Thread nD τ).loc cc0_scratch0), ((c : Thread nD τ).loc cc0_scratch0) ↦[slotSet s]{fullShare} f) :=
  congrArg (fun Φ : Buf (Elt F) ((c : Thread nD τ).loc cc0_scratch0) → sProp 𝕄 => iprop(∃ f, Φ f)) (funext fun f => heldX_eq c s f)
/-- The input scratch, at anything, is cut into its slots; -/
theorem xs_split : (iprop(∃ f : Buf (Elt F) ((c : Thread nD τ).loc cc0_scratch0), ((c : Thread nD τ).loc cc0_scratch0) ↦{fullShare} f) : sProp 𝕄)
    ⊢ bigSep Finset.univ fun s => iprop(∃ f, held (F := F) c (xSlot s) f) := by
  rw [bigSep_congr fun s _ => xs_slot (F := F) c s]
  iintro ⟨%f, H⟩
  have key : (((c : Thread nD τ).loc cc0_scratch0) ↦{fullShare} f : sProp 𝕄)
      ⊢ bigSep Finset.univ fun s => iprop(∃ f : Buf (Elt F) ((c : Thread nD τ).loc cc0_scratch0), ((c : Thread nD τ).loc cc0_scratch0) ↦[slotSet s]{fullShare} f) := by
    rw [Ring.pointsTo_blocks slotSet slots_disjoint slots_cover f]
    exact bigSep_mono fun s _ => exists_intro (Φ := fun f : Buf (Elt F) ((c : Thread nD τ).loc cc0_scratch0) => (((c : Thread nD τ).loc cc0_scratch0) ↦[slotSet s]{fullShare} f : sProp 𝕄)) f
  iapply key
  iexact H
/-- and its slots, at anything, are the scratch. -/
theorem xs_join (f : Buf (Elt F) ((c : Thread nD τ).loc cc0_scratch0)) : bigSep Finset.univ (fun s => iprop(∃ f, held (F := F) c (xSlot s) f))
    ⊢ (iprop(∃ f : Buf (Elt F) ((c : Thread nD τ).loc cc0_scratch0), ((c : Thread nD τ).loc cc0_scratch0) ↦{fullShare} f) : sProp 𝕄) := by
  rw [bigSep_congr fun s _ => xs_slot (F := F) c s]
  have key := Ring.pointsTo_blocks_join_exists (Ix := Unit) (Name := ℕ) (U := Pipeline.UD sig nD τ) (Lvl := ℕ) (q := fullShare) slotSet slots_disjoint slots_cover f
  exact key
/-- The same of the output scratch. -/
theorem ys_slot (s : Fin 4) : (iprop(∃ f, held (F := F) c (ySlot s) f) : sProp 𝕄)
    = iprop(∃ f : Buf (Elt F) ((c : Thread nD τ).loc cc0_scratch1), ((c : Thread nD τ).loc cc0_scratch1) ↦[slotSet s]{fullShare} f) :=
  congrArg (fun Φ : Buf (Elt F) ((c : Thread nD τ).loc cc0_scratch1) → sProp 𝕄 => iprop(∃ f, Φ f)) (funext fun f => heldY_eq c s f)
/-- The output scratch, at anything, is cut into its slots; -/
theorem ys_split : (iprop(∃ f : Buf (Elt F) ((c : Thread nD τ).loc cc0_scratch1), ((c : Thread nD τ).loc cc0_scratch1) ↦{fullShare} f) : sProp 𝕄)
    ⊢ bigSep Finset.univ fun s => iprop(∃ f, held (F := F) c (ySlot s) f) := by
  rw [bigSep_congr fun s _ => ys_slot (F := F) c s]
  iintro ⟨%f, H⟩
  have key : (((c : Thread nD τ).loc cc0_scratch1) ↦{fullShare} f : sProp 𝕄)
      ⊢ bigSep Finset.univ fun s => iprop(∃ f : Buf (Elt F) ((c : Thread nD τ).loc cc0_scratch1), ((c : Thread nD τ).loc cc0_scratch1) ↦[slotSet s]{fullShare} f) := by
    rw [Ring.pointsTo_blocks slotSet slots_disjoint slots_cover f]
    exact bigSep_mono fun s _ => exists_intro (Φ := fun f : Buf (Elt F) ((c : Thread nD τ).loc cc0_scratch1) => (((c : Thread nD τ).loc cc0_scratch1) ↦[slotSet s]{fullShare} f : sProp 𝕄)) f
  iapply key
  iexact H
/-- and its slots, at anything, are the scratch. -/
theorem ys_join (f : Buf (Elt F) ((c : Thread nD τ).loc cc0_scratch1)) : bigSep Finset.univ (fun s => iprop(∃ f, held (F := F) c (ySlot s) f))
    ⊢ (iprop(∃ f : Buf (Elt F) ((c : Thread nD τ).loc cc0_scratch1), ((c : Thread nD τ).loc cc0_scratch1) ↦{fullShare} f) : sProp 𝕄) := by
  rw [bigSep_congr fun s _ => ys_slot (F := F) c s]
  have key := Ring.pointsTo_blocks_join_exists (Ix := Unit) (Name := ℕ) (U := Pipeline.UD sig nD τ) (Lvl := ℕ) (q := fullShare) slotSet slots_disjoint slots_cover f
  exact key

/-- The input array is its blocks. -/
theorem home_split (X : Cont (F := F) c xM) :
    (((c : Thread nD τ).loc main_v3) ↦{fullShare} X : sProp 𝕄) = bigSep Finset.univ fun b => xHome c X b := by
  rw [Ring.pointsTo_blocks blockSet blocks_disjoint blocks_cover]
  exact bigSep_congr fun b _ => (home_eq c b X).symm
/-- The output array, at anything, is cut into its blocks; -/
theorem out_split (f : Cont (F := F) c oM) :
    (((c : Thread nD τ).loc main_v4) ↦{fullShare} f : sProp 𝕄) ⊢ bigSep Finset.univ fun b => oAny (F := F) c b := by
  rw [Ring.pointsTo_blocks blockSet blocks_disjoint blocks_cover, ← bigSep_congr fun b _ => heldO_eq c b f]
  exact bigSep_mono fun b _ => exists_intro (Φ := fun f => held (F := F) c (oBlock b) f) f
/-- and blocks that read as those of `g` are the array at `g`. -/
theorem out_one (g : Cont (F := F) c oM) (b : Fin 8) : oDone c ((oBlock b).view.read (Elt F) g) b ⊢ held c (oBlock b) g := by
  iintro ⟨%f, %hf, H⟩
  have key : held c (oBlock b) f = held c (oBlock b) g := by
    unfold held
    refine pointsTo_congr fun i hi => ?_
    obtain ⟨x, -, rfl⟩ := Finset.mem_map.mp hi
    exact View.eq_of_read_eq (congrFun hf x)
  rw [← key]
  iexact H
/-- Eight blocks that read as those of `g` are the whole array at `g`. -/
theorem out_join (g : Cont (F := F) c oM) :
    (bigSep Finset.univ fun b => oDone c ((oBlock b).view.read (Elt F) g) b) ⊢ (((c : Thread nD τ).loc main_v4) ↦{fullShare} g : sProp 𝕄) := by
  rw [Ring.pointsTo_blocks blockSet blocks_disjoint blocks_cover, ← bigSep_congr fun b _ => heldO_eq c b g]
  exact bigSep_mono fun b _ => out_one c g b

/-- The kernel's own semaphore cells. -/
abbrev osem : Fin 8 → SemLoc sig := fun j =>
  (![SemLoc.dma 3, SemLoc.dma 4, SemLoc.dma 5, SemLoc.dma 6, SemLoc.dma 7, SemLoc.dma 8, SemLoc.dma 9, SemLoc.dma 10] : Fin 8 → SemLoc sig) j
/-- They are distinct, and none of them is the pipeline's. -/
theorem osem_facts : Pipeline.OwnSemFacts spec0 osem := by decide
/-- The named cells by their numbers. -/
theorem xCell_nums : xCell 0 = SemLoc.dma 3 ∧ xCell 1 = SemLoc.dma 4 ∧ xCell 2 = SemLoc.dma 5 ∧ xCell 3 = SemLoc.dma 6 := by decide
theorem yCell_nums : yCell 0 = SemLoc.dma 7 ∧ yCell 1 = SemLoc.dma 8 ∧ yCell 2 = SemLoc.dma 9 ∧ yCell 3 = SemLoc.dma 10 := by decide
/-- The kernel's own cells at zero are the named cells at zero. -/
theorem osems_eq : (Pipeline.ownSems0 (Ix := Unit) (Name := ℕ) (U := Pipeline.UD sig nD τ) (Lvl := ℕ) (Val := Elt F) (τ := τ) osem c : sProp 𝕄)
    = iprop(idle c (xCell 0) ∗ idle c (xCell 1) ∗ idle c (xCell 2) ∗ idle c (xCell 3) ∗ idle c (yCell 0) ∗ idle c (yCell 1) ∗ idle c (yCell 2) ∗ idle c (yCell 3)) := by
  rw [Pipeline.ownSems0_eq_of_list c osem [0, 1, 2, 3, 4, 5, 6, 7] (by decide) (by decide)]
  unfold idle
  rw [xCell_nums.1, xCell_nums.2.1, xCell_nums.2.2.1, xCell_nums.2.2.2, yCell_nums.1, yCell_nums.2.1, yCell_nums.2.2.1, yCell_nums.2.2.2]
  rfl

/-- The arrays the kernel reads and writes by its own copies. -/
def inRefs : Finset (Ref sig .tc) := {main_v3}
def outRefs : Finset (Ref sig .tc) := {main_v4}
/-- The input array is not one that the pipeline moves. -/
theorem inRefs_sub : inRefs ⊆ Pipeline.restRefs sig spec0 := by decide
/-- Nor is the output array, which is not the input array. -/
theorem outRefs_sub : outRefs ⊆ Pipeline.restRefs sig spec0 \ inRefs := by decide

/-- What the launch hands the kernel, and takes back. -/
theorem handed (V G : (c : Dev nD) → (b : Ref sig .tc) → Buf (Elt F) ((c : Thread nD τ).loc b)) :
    (Pipeline.ΦDRV osem spec0 inRefs outRefs V G c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f))
          ∗ (idle c (xCell 0) ∗ idle c (xCell 1) ∗ idle c (xCell 2) ∗ idle c (xCell 3) ∗ idle c (yCell 0) ∗ idle c (yCell 1) ∗ idle c (yCell 2) ∗ idle c (yCell 3))
          ∗ (((c : Thread nD τ).loc main_v3) ↦{fullShare} V c main_v3) ∗ (((c : Thread nD τ).loc main_v4) ↦{fullShare} G c main_v4)) := by
  unfold Pipeline.ΦDRV
  rw [scopedRest0_eq, osems_eq, BI.bigSep_eq_bigSepL_of_eq [main_v3] (by decide) (by decide), BI.bigSep_eq_bigSepL_of_eq [main_v4] (by decide) (by decide)]
  rfl
end Pieces

end Cert.Kernel.Stream
-- ==== Proof.Run.lean ====
/- The body's runs. -/
module

public import proofs.«01_k».proof.Proof.Names

@[expose] public section

set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (t : Fin cfg0.N)
  (arg1 : Memref sig .tc .vmem S1x128 .i32) (harg1 : arg1.IsWhole) (arg3 : Memref sig .tc .vmem S128x128 .f32) (harg3 : arg3.IsWhole)
  (arg4 : Memref sig .tc .vmem S1x128 .f32) (harg4 : arg4.IsWhole)

/-- The body at point `t`, on the staged windows `arg1`, `arg3`, `arg4`. -/
abbrev body : Prog (TpuEff nD τ sig (Elt F) Λ₀ .tc) PUnit :=
  cc0__body (grid0.coords t) arg1 harg1 (Memref.whole main_v3) (Memref.isWhole_whole _) arg3 harg3 arg4 harg4 (Memref.whole main_v4) (Memref.isWhole_whole _)
    xsM (Memref.isWhole_whole _) ysM (Memref.isWhole_whole _) wpM (Memref.isWhole_whole _) cc0_scratch3 cc0_scratch4

set_option maxHeartbeats 4000000 in
/-- A point that refills its slots for the first time: the copy in of its block is waited for, its rows are computed and sent out, and
    the slot's second block is sent for. -/
theorem run_early (h1 : ¬isFirst (grid0.coords t)) (h2 : ¬k0_cond2 (grid0.coords t) = 1#1) (h3 : k0_cond3 (grid0.coords t) = 1#1) (h4 : ¬isLast (grid0.coords t))
    (w : Vec F S128x128 .f32) (bias : Vec F S1x128 .f32) (X : Cont (F := F) c xM) (W : Waits sig Unit) (Q : PUnit → sProp 𝕄) :
    iprop(owns (c : Thread nD τ) arg4 fullShare bias ∗ owns (c : Thread nD τ) wpM fullShare w
        ∗ xFlight c X (Ring.sl 4 t.val) (Ring.bk 8 t.val) ∗ xHome c X (Ring.bk 8 (t.val + 4)) ∗ yFree c (Ring.sl 4 t.val) ∗ oAny c (Ring.bk 8 t.val) ∗ owes (c : Thread nD τ) 0 W
        ∗ (iprop(owns (c : Thread nD τ) arg4 fullShare bias ∗ owns (c : Thread nD τ) wpM fullShare w
            ∗ xFlight c X (Ring.sl 4 t.val) (Ring.bk 8 (t.val + 4)) ∗ xHome c X (Ring.bk 8 t.val) ∗ yFlight c (rowsAt c X w bias (Ring.bk 8 t.val)) (Ring.sl 4 t.val) (Ring.bk 8 t.val) ∗ (∃ W', owes (c : Thread nD τ) 0 W')) -∗ Q ⟨⟩))
      ⊢ wp frame (wpE (defs₀ (F := F)) Variants.none c none) Set.univ (body t arg1 harg1 arg3 harg3 arg4 harg4) Q := by
  haveI := Fact.mk h1
  haveI := Fact.mk h2
  haveI := Fact.mk h3
  haveI := Fact.mk h4
  unfold body
  simp only [cc0__body_eq_skeleton]; unfold cc0__body_skel
  simp only [k0_part2_eq_skeleton, k0_part1_eq_skeleton]
  unfold owns
  iintro ⟨⟨%f4, %hf4, H4⟩, ⟨%fw, %hfw, Hw⟩, ⟨%fx, %hfx, Hx⟩, Hb, ⟨Hc, ⟨%fy, Hy⟩⟩, ⟨%fo, Ho⟩, HW, Hk⟩
  obtain rfl := harg4.eq_unread hf4
  sl_exec (disch := first | sl_exact h1 | sl_exact h2 | sl_exact h3 | sl_exact h4)
  sl_step
  iapply Hk
  isplitl [H4]
  · iexists _; isplitr; · ipureintro; exact hf4
    iexact H4
  isplitl [Hw]
  · iexists _; isplitr; · ipureintro; exact hfw
    iexact Hw
  isplitl [Hx]
  · iapply (xFlight_intro c X (Ring.sl 4 t.val) (Ring.bk 8 (t.val + 4)) _ ?_) $$ Hx
    delta run_early.sl.dma5_1
    exact View.read_writes_whole _ _ _
  isplitl [Hx_src]; · iexact Hx_src
  isplitl [Hc]
  · iapply (yFlight_intro c _ (Ring.sl 4 t.val) (Ring.bk 8 t.val) _ (run_early.sl.Hy_w1 c t arg4 harg4 bias fw fx fy) ?_) $$ Hc
    delta run_early.sl.dma5 run_early.sl.Hy_w1
    exact out_rows c _ _ arg4 (off7_at t) _ _ _ _ _ _ _ _ _ _ _ _ hfx hfw hf4
  iexists _; iexact HW

set_option maxHeartbeats 4000000 in
/-- A point of the second half, before the last: the copy out of its slot's first block is waited for before its rows are stored. -/
theorem run_late (h1 : ¬isFirst (grid0.coords t)) (h2 : k0_cond2 (grid0.coords t) = 1#1) (h3 : ¬k0_cond3 (grid0.coords t) = 1#1) (h4 : ¬isLast (grid0.coords t))
    (w : Vec F S128x128 .f32) (bias : Vec F S1x128 .f32) (X : Cont (F := F) c xM) (o : Vec F S13312x128 .f32) (W : Waits sig Unit) (Q : PUnit → sProp 𝕄) :
    iprop(owns (c : Thread nD τ) arg4 fullShare bias ∗ owns (c : Thread nD τ) wpM fullShare w
        ∗ xFlight c X (Ring.sl 4 t.val) (Ring.bk 8 t.val) ∗ yFlight c o (Ring.sl 4 t.val) (Ring.bk 8 (t.val - 4)) ∗ oAny c (Ring.bk 8 t.val) ∗ owes (c : Thread nD τ) 0 W
        ∗ (iprop(owns (c : Thread nD τ) arg4 fullShare bias ∗ owns (c : Thread nD τ) wpM fullShare w
            ∗ xFree c (Ring.sl 4 t.val) ∗ xHome c X (Ring.bk 8 t.val) ∗ oDone c o (Ring.bk 8 (t.val - 4)) ∗ yFlight c (rowsAt c X w bias (Ring.bk 8 t.val)) (Ring.sl 4 t.val) (Ring.bk 8 t.val) ∗ (∃ W', owes (c : Thread nD τ) 0 W')) -∗ Q ⟨⟩))
      ⊢ wp frame (wpE (defs₀ (F := F)) Variants.none c none) Set.univ (body t arg1 harg1 arg3 harg3 arg4 harg4) Q := by
  haveI := Fact.mk h1
  haveI := Fact.mk h2
  haveI := Fact.mk h3
  haveI := Fact.mk h4
  unfold body
  simp only [cc0__body_eq_skeleton]; unfold cc0__body_skel
  simp only [k0_part2_eq_skeleton, k0_part1_eq_skeleton]
  unfold owns
  iintro ⟨⟨%f4, %hf4, H4⟩, ⟨%fw, %hfw, Hw⟩, ⟨%fx, %hfx, Hx⟩, ⟨%fp, %fy, %hfp, Hy⟩, ⟨%fo, Ho⟩, HW, Hk⟩
  obtain rfl := harg4.eq_unread hf4
  sl_exec (disch := first | sl_exact h1 | sl_exact h2 | sl_exact h3 | sl_exact h4)
  sl_step
  iapply Hk
  isplitl [H4]
  · iexists _; isplitr; · ipureintro; exact hf4
    iexact H4
  isplitl [Hw]
  · iexists _; isplitr; · ipureintro; exact hfw
    iexact Hw
  isplitl [Hx Hx_dst]
  · isplitl [Hx]; · iexact Hx
    iexists _; iexact Hx_dst
  isplitl [Hx_src]; · iexact Hx_src
  isplitl [Hy_dst]
  · iexists _; isplitr; · ipureintro; exact hfp
    iexact Hy_dst
  isplitl [Hy]
  · iapply (yFlight_intro c _ (Ring.sl 4 t.val) (Ring.bk 8 t.val) _ (run_late.sl.Hy_src_w1 c t arg4 harg4 bias fw fx fy) ?_) $$ Hy
    delta run_late.sl.dma5 run_late.sl.Hy_src_w1
    exact out_rows c _ _ arg4 (off7_at t) _ _ _ _ _ _ _ _ _ _ _ _ hfx hfw hf4
  iexists _; iexact HW

set_option maxHeartbeats 4000000 in
/-- The last point: as before, and then the copies out that are still on their way are waited for. -/
theorem run_last (h1 : ¬isFirst (grid0.coords t)) (h2 : k0_cond2 (grid0.coords t) = 1#1) (h3 : ¬k0_cond3 (grid0.coords t) = 1#1) (h4 : isLast (grid0.coords t))
    (w : Vec F S128x128 .f32) (bias : Vec F S1x128 .f32) (X : Cont (F := F) c xM) (o o1 o2 o3 : Vec F S13312x128 .f32) (W : Waits sig Unit) (Q : PUnit → sProp 𝕄) :
    iprop(owns (c : Thread nD τ) arg4 fullShare bias ∗ owns (c : Thread nD τ) wpM fullShare w
        ∗ xFlight c X (Ring.sl 4 t.val) (Ring.bk 8 t.val) ∗ yFlight c o (Ring.sl 4 t.val) (Ring.bk 8 (t.val - 4)) ∗ oAny c (Ring.bk 8 t.val)
        ∗ yFlight c o1 (Ring.sl 4 (t.val + 1)) (Ring.bk 8 (t.val - 3)) ∗ yFlight c o2 (Ring.sl 4 (t.val + 2)) (Ring.bk 8 (t.val - 2)) ∗ yFlight c o3 (Ring.sl 4 (t.val + 3)) (Ring.bk 8 (t.val - 1)) ∗ owes (c : Thread nD τ) 0 W
        ∗ (iprop(owns (c : Thread nD τ) arg4 fullShare bias ∗ owns (c : Thread nD τ) wpM fullShare w
            ∗ xFree c (Ring.sl 4 t.val) ∗ xHome c X (Ring.bk 8 t.val) ∗ oDone c o (Ring.bk 8 (t.val - 4)) ∗ (yFree c (Ring.sl 4 t.val) ∗ oDone c (rowsAt c X w bias (Ring.bk 8 t.val)) (Ring.bk 8 t.val))
            ∗ (yFree c (Ring.sl 4 (t.val + 1)) ∗ oDone c o1 (Ring.bk 8 (t.val - 3))) ∗ (yFree c (Ring.sl 4 (t.val + 2)) ∗ oDone c o2 (Ring.bk 8 (t.val - 2))) ∗ (yFree c (Ring.sl 4 (t.val + 3)) ∗ oDone c o3 (Ring.bk 8 (t.val - 1))) ∗ (∃ W', owes (c : Thread nD τ) 0 W')) -∗ Q ⟨⟩))
      ⊢ wp frame (wpE (defs₀ (F := F)) Variants.none c none) Set.univ (body t arg1 harg1 arg3 harg3 arg4 harg4) Q := by
  haveI := Fact.mk h1
  haveI := Fact.mk h2
  haveI := Fact.mk h3
  haveI := Fact.mk h4
  unfold body
  simp only [cc0__body_eq_skeleton]; unfold cc0__body_skel
  simp only [k0_part2_eq_skeleton, k0_part1_eq_skeleton]
  unfold owns
  iintro ⟨⟨%f4, %hf4, H4⟩, ⟨%fw, %hfw, Hw⟩, ⟨%fx, %hfx, Hx⟩, ⟨%fp, %fy, %hfp, Hy⟩, ⟨%fo, Ho⟩, ⟨%f1, %fy1, %hf1, Hy1⟩, ⟨%f2, %fy2, %hf2, Hy2⟩, ⟨%f3, %fy3, %hf3, Hy3⟩, HW, Hk⟩
  obtain rfl := harg4.eq_unread hf4
  sl_exec (disch := first | sl_exact h1 | sl_exact h2 | sl_exact h3 | sl_exact h4)
  sl_step
  iapply Hk
  isplitl [H4]
  · iexists _; isplitr; · ipureintro; exact hf4
    iexact H4
  isplitl [Hw]
  · iexists _; isplitr; · ipureintro; exact hfw
    iexact Hw
  isplitl [Hx Hx_dst]
  · isplitl [Hx]; · iexact Hx
    iexists _; iexact Hx_dst
  isplitl [Hx_src]; · iexact Hx_src
  isplitl [Hy_dst]
  · iexists _; isplitr; · ipureintro; exact hfp
    iexact Hy_dst
  isplitl [Hy Hy_src Ho]
  · isplitl [Hy Hy_src]
    · isplitl [Hy]; · iexact Hy
      iexists _; iexact Hy_src
    · iexists _; isplitr
      rotate_left
      · iexact Ho
      · ipureintro
        delta run_last.sl.dma5 run_last.sl.Hy_src_w1
        exact out_rows c _ _ arg4 (off7_at t) _ _ _ _ _ _ _ _ _ _ _ _ hfx hfw hf4
  isplitl [Hy1 Hy1_src Hy1_dst]
  · isplitl [Hy1 Hy1_src]
    · isplitl [Hy1]; · iexact Hy1
      iexists _; iexact Hy1_src
    · iexists _; isplitr; · ipureintro; exact hf1
      iexact Hy1_dst
  isplitl [Hy2 Hy2_src Hy2_dst]
  · isplitl [Hy2 Hy2_src]
    · isplitl [Hy2]; · iexact Hy2
      iexists _; iexact Hy2_src
    · iexists _; isplitr; · ipureintro; exact hf2
      iexact Hy2_dst
  isplitl [Hy3 Hy3_src Hy3_dst]
  · isplitl [Hy3 Hy3_src]
    · isplitl [Hy3]; · iexact Hy3
      iexists _; iexact Hy3_src
    · iexists _; isplitr; · ipureintro; exact hf3
      iexact Hy3_dst
  iexists _; iexact HW

set_option maxHeartbeats 4000000 in
/-- The first point: the table is built, the first four copies in are started, and the first of them is served as at an early point. -/
theorem run_first (h1 : isFirst (grid0.coords t)) (h2 : ¬k0_cond2 (grid0.coords t) = 1#1) (h3 : k0_cond3 (grid0.coords t) = 1#1) (h4 : ¬isLast (grid0.coords t))
    (idx : Vec F S1x128 .i32) (wt : Vec F S128x128 .f32) (bias : Vec F S1x128 .f32) (X : Cont (F := F) c xM) (W : Waits sig Unit) (Q : PUnit → sProp 𝕄) :
    iprop(owns (c : Thread nD τ) arg1 fullShare idx ∗ owns (c : Thread nD τ) arg3 fullShare wt ∗ owns (c : Thread nD τ) arg4 fullShare bias ∗ (∃ w, owns (c : Thread nD τ) wpM fullShare w)
        ∗ (xFree c (Ring.sl 4 t.val) ∗ xHome c X (Ring.bk 8 t.val)) ∗ (xFree c (Ring.sl 4 (t.val + 1)) ∗ xHome c X (Ring.bk 8 (t.val + 1))) ∗ (xFree c (Ring.sl 4 (t.val + 2)) ∗ xHome c X (Ring.bk 8 (t.val + 2))) ∗ (xFree c (Ring.sl 4 (t.val + 3)) ∗ xHome c X (Ring.bk 8 (t.val + 3)))
        ∗ xHome c X (Ring.bk 8 (t.val + 4)) ∗ yFree c (Ring.sl 4 t.val) ∗ oAny c (Ring.bk 8 t.val) ∗ owes (c : Thread nD τ) 0 W
        ∗ (iprop(owns (c : Thread nD τ) arg1 fullShare idx ∗ owns (c : Thread nD τ) arg3 fullShare wt ∗ owns (c : Thread nD τ) arg4 fullShare bias ∗ owns (c : Thread nD τ) wpM fullShare (k0_pay1 idx wt)
            ∗ xFlight c X (Ring.sl 4 t.val) (Ring.bk 8 (t.val + 4)) ∗ xHome c X (Ring.bk 8 t.val) ∗ yFlight c (rowsAt c X (k0_pay1 idx wt) bias (Ring.bk 8 t.val)) (Ring.sl 4 t.val) (Ring.bk 8 t.val)
            ∗ xFlight c X (Ring.sl 4 (t.val + 1)) (Ring.bk 8 (t.val + 1)) ∗ xFlight c X (Ring.sl 4 (t.val + 2)) (Ring.bk 8 (t.val + 2)) ∗ xFlight c X (Ring.sl 4 (t.val + 3)) (Ring.bk 8 (t.val + 3)) ∗ (∃ W', owes (c : Thread nD τ) 0 W')) -∗ Q ⟨⟩))
      ⊢ wp frame (wpE (defs₀ (F := F)) Variants.none c none) Set.univ (body t arg1 harg1 arg3 harg3 arg4 harg4) Q := by
  haveI := Fact.mk h1
  haveI := Fact.mk h2
  haveI := Fact.mk h3
  haveI := Fact.mk h4
  unfold body
  simp only [cc0__body_eq_skeleton]; unfold cc0__body_skel
  simp only [k0_part2_eq_skeleton, k0_part1_eq_skeleton]
  unfold owns
  iintro ⟨⟨%f1, %hf1, H1⟩, ⟨%f3, %hf3, H3⟩, ⟨%f4, %hf4, H4⟩, ⟨%w, ⟨%fw, %hfw, Hw⟩⟩, ⟨⟨Hx, ⟨%fx, Sx⟩⟩, Hb⟩, ⟨⟨Hx1, ⟨%fx1, Sx1⟩⟩, Hb1⟩, ⟨⟨Hx2, ⟨%fx2, Sx2⟩⟩, Hb2⟩, ⟨⟨Hx3, ⟨%fx3, Sx3⟩⟩, Hb3⟩, Hb4, ⟨Hc, ⟨%fy, Hy⟩⟩, ⟨%fo, Ho⟩, HW, Hk⟩
  obtain rfl := harg1.eq_unread hf1
  obtain rfl := harg3.eq_unread hf3
  obtain rfl := harg4.eq_unread hf4
  sl_exec (disch := first | sl_exact h1 | sl_exact h2 | sl_exact h3 | sl_exact h4)
  sl_step
  iapply Hk
  isplitl [H1]
  · iexists _; isplitr; · ipureintro; exact hf1
    iexact H1
  isplitl [H3]
  · iexists _; isplitr; · ipureintro; exact hf3
    iexact H3
  isplitl [H4]
  · iexists _; isplitr; · ipureintro; exact hf4
    iexact H4
  isplitl [Hw]
  · iexists _; isplitr
    rotate_left
    · iexact Hw
    · ipureintro
      delta run_first.sl.Hw_1
      refine (View.read_writes_full _ _ _ _ _).trans ?_
      rw [View.readAt_full, View.readAt_full, hf1, hf3]
  isplitl [Hx]
  · iapply (xFlight_intro c X (Ring.sl 4 t.val) (Ring.bk 8 (t.val + 4)) _ ?_) $$ Hx
    delta run_first.sl.dma9_1
    exact read_whole _ _ _ _
  isplitl [Hb]; · iexact Hb
  isplitl [Hc]
  · iapply (yFlight_intro c _ (Ring.sl 4 t.val) (Ring.bk 8 t.val) _ (run_first.sl.Hy_w1 c t arg1 harg1 arg3 harg3 arg4 harg4 idx wt bias X fy) ?_) $$ Hc
    delta run_first.sl.dma9 run_first.sl.Hy_w1 run_first.sl.v14 run_first.sl.v16 run_first.sl.Hw_1 run_first.sl.dma4
    have e1 : arg1.view.readAt (Elt F) (Rect.unit (s := S1x128) ![0, 0] S1x128.size inb_S1x128_S1x128_0_0).toLoadRect (harg1.unread idx) = idx :=
      (View.readAt_full _ _ _).trans hf1
    have e3 : arg3.view.readAt (Elt F) (Rect.unit (s := S128x128) ![0, 0] S128x128.size inb_S128x128_S128x128_0_0).toLoadRect (harg3.unread wt) = wt :=
      (View.readAt_full _ _ _).trans hf3
    have e4 : arg4.view.readAt (Elt F) (Rect.unit (s := S1x128) ![0, 0] S1x128.size inb_S1x128_S1x128_0_0).toLoadRect (harg4.unread bias) = bias :=
      (View.readAt_full _ _ _).trans hf4
    rw [e1, e3, e4]
    refine out_rows_of c (Ring.sl 4 t.val) (Ring.bk 8 t.val) (off7_at t) _ ((xBlock (Ring.bk 8 t.val)).view.read (Elt F) X) (k0_pay1 idx wt) _ bias bias _ fy fo ?_ ?_ rfl
    · exact load_landed c _ (off7_at t) _ _ _
    · exact load_table _ _ _ rfl
  isplitl [Hx1]
  · iapply (xFlight_intro c X (Ring.sl 4 (t.val + 1)) (Ring.bk 8 (t.val + 1)) _ ?_) $$ Hx1
    delta run_first.sl.dma4_1
    exact read_whole _ _ _ _
  isplitl [Hx2]
  · iapply (xFlight_intro c X (Ring.sl 4 (t.val + 2)) (Ring.bk 8 (t.val + 2)) _ ?_) $$ Hx2
    delta run_first.sl.dma4_2
    exact read_whole _ _ _ _
  isplitl [Hx3]
  · iapply (xFlight_intro c X (Ring.sl 4 (t.val + 3)) (Ring.bk 8 (t.val + 3)) _ ?_) $$ Hx3
    delta run_first.sl.dma4_3
    exact read_whole _ _ _ _
  iexists _; iexact HW

end Cert.Kernel.Stream

end
-- ==== Proof.Stream.lean ====
/- What holds of the slots between two points, and each point's step from one to the next.

   Slot `s` serves block `s` first and block `s + 4` after it. Before the first point everything is at rest; the
   first point sends for the first four blocks; a slot's block is used at the point of the block's number, its rows
   are then on their way out, and the slot's second block on its way in; the last point waits for all that is left. -/
module

public import proofs.«01_k».proof.Proof.Split
public import proofs.«01_k».proof.Proof.Run

@[expose] public section

set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The blocks slot `s` serves. -/
abbrev lo (s : Fin 4) : Fin 8 := Ring.bk 8 s.val
abbrev hi (s : Fin 4) : Fin 8 := Ring.bk 8 (s.val + 4)

section States
variable (c : Dev nD) (X : Cont (F := F) c xM) (w : Vec F S128x128 .f32) (bias : Vec F S1x128 .f32) (s : Fin 4)

/-- A slot's five states: at rest with its output blocks not yet written; its first block coming in; its second block
    coming in and its first rows going out; its second rows going out; all done. -/
def resting : sProp 𝕄 := iprop(xFree c s ∗ xHome c X (lo s) ∗ xHome c X (hi s) ∗ yFree c s ∗ oAny c (lo s) ∗ oAny c (hi s))
def coming : sProp 𝕄 := iprop(xFlight c X s (lo s) ∗ xHome c X (hi s) ∗ yFree c s ∗ oAny c (lo s) ∗ oAny c (hi s))
def midway : sProp 𝕄 := iprop(xFlight c X s (hi s) ∗ xHome c X (lo s) ∗ yFlight c (rowsAt c X w bias (lo s)) s (lo s) ∗ oAny c (hi s))
def going : sProp 𝕄 := iprop(xFree c s ∗ xHome c X (lo s) ∗ xHome c X (hi s) ∗ yFlight c (rowsAt c X w bias (hi s)) s (hi s) ∗ oDone c (rowsAt c X w bias (lo s)) (lo s))
def finished : sProp 𝕄 := iprop(xFree c s ∗ xHome c X (lo s) ∗ xHome c X (hi s) ∗ yFree c s ∗ oDone c (rowsAt c X w bias (lo s)) (lo s) ∗ oDone c (rowsAt c X w bias (hi s)) (hi s))

/-- Slot `s` before point `k`. -/
def slotAt (k : ℕ) : sProp 𝕄 :=
  if k = 0 then resting c X s else if k ≤ s.val then coming c X s else if k ≤ s.val + 4 then midway c X w bias s
  else if k < 8 then going c X w bias s else finished c X w bias s

/-- Before the first point a slot is at rest. -/
theorem slotAt_zero : slotAt c X w bias s 0 = resting c X s := rfl
/-- After the last point a slot is done. -/
theorem slotAt_end : slotAt c X w bias s 8 = finished c X w bias s := by
  have := s.isLt
  unfold slotAt
  rw [if_neg (by omega), if_neg (by omega), if_neg (by omega), if_neg (by omega)]
/-- A point does nothing to the slots it does not name. -/
theorem slotAt_other (t : ℕ) (h0 : 1 ≤ t) (h7 : t < 7) (hs : s ≠ Ring.sl 4 t) : slotAt c X w bias s (t + 1) = slotAt c X w bias s t := by
  have hv : s.val ≠ t % 4 := fun h => hs (Fin.ext h)
  have := s.isLt
  unfold slotAt
  rw [if_neg (by omega), if_neg (by omega : ¬t = 0)]
  simp only [show (t + 1 ≤ s.val) = (t ≤ s.val) from propext ⟨fun _ => by omega, fun _ => by omega⟩,
    show (t + 1 ≤ s.val + 4) = (t ≤ s.val + 4) from propext ⟨fun _ => by omega, fun _ => by omega⟩,
    show (t + 1 < 8) = (t < 8) from propext ⟨fun _ => by omega, fun _ => by omega⟩]
/-- Before an early point its slot has block `t` coming in; -/
theorem early_before (t : ℕ) (h0 : 1 ≤ t) (h4 : t < 4) : slotAt c X w bias (Ring.sl 4 t) t
    = iprop(xFlight c X (Ring.sl 4 t) (Ring.bk 8 t) ∗ xHome c X (Ring.bk 8 (t + 4)) ∗ yFree c (Ring.sl 4 t) ∗ oAny c (Ring.bk 8 t) ∗ oAny c (Ring.bk 8 (t + 4))) := by
  have e : (Ring.sl 4 t).val = t := Nat.mod_eq_of_lt h4
  unfold slotAt
  rw [if_neg (by omega), if_pos (by omega)]
  unfold coming lo hi
  rw [e]
/-- after it, block `t + 4` is coming in and the rows of block `t` are going out. -/
theorem early_after (t : ℕ) (h0 : 1 ≤ t) (h4 : t < 4) : slotAt c X w bias (Ring.sl 4 t) (t + 1)
    = iprop(xFlight c X (Ring.sl 4 t) (Ring.bk 8 (t + 4)) ∗ xHome c X (Ring.bk 8 t) ∗ yFlight c (rowsAt c X w bias (Ring.bk 8 t)) (Ring.sl 4 t) (Ring.bk 8 t) ∗ oAny c (Ring.bk 8 (t + 4))) := by
  have e : (Ring.sl 4 t).val = t := Nat.mod_eq_of_lt h4
  unfold slotAt
  rw [if_neg (by omega), if_neg (by omega), if_pos (by omega)]
  unfold midway lo hi
  rw [e]
/-- Before a late point its slot has block `t` coming in and the rows of block `t - 4` going out; -/
theorem late_before (t : ℕ) (h4 : 4 ≤ t) (h8 : t < 8) : slotAt c X w bias (Ring.sl 4 t) t
    = iprop(xFlight c X (Ring.sl 4 t) (Ring.bk 8 t) ∗ xHome c X (Ring.bk 8 (t - 4)) ∗ yFlight c (rowsAt c X w bias (Ring.bk 8 (t - 4))) (Ring.sl 4 t) (Ring.bk 8 (t - 4)) ∗ oAny c (Ring.bk 8 t)) := by
  have e : (Ring.sl 4 t).val = t - 4 := by show t % 4 = t - 4; omega
  unfold slotAt
  rw [if_neg (by omega), if_neg (by omega), if_pos (by omega)]
  unfold midway lo hi
  rw [e, Nat.sub_add_cancel h4]
/-- after it, the rows of block `t` are going out and those of block `t - 4` are there. -/
theorem late_after (t : ℕ) (h4 : 4 ≤ t) (h7 : t < 7) : slotAt c X w bias (Ring.sl 4 t) (t + 1)
    = iprop(xFree c (Ring.sl 4 t) ∗ xHome c X (Ring.bk 8 (t - 4)) ∗ xHome c X (Ring.bk 8 t) ∗ yFlight c (rowsAt c X w bias (Ring.bk 8 t)) (Ring.sl 4 t) (Ring.bk 8 t) ∗ oDone c (rowsAt c X w bias (Ring.bk 8 (t - 4))) (Ring.bk 8 (t - 4))) := by
  have e : (Ring.sl 4 t).val = t - 4 := by show t % 4 = t - 4; omega
  unfold slotAt
  rw [if_neg (by omega), if_neg (by omega), if_neg (by omega), if_pos (by omega)]
  unfold going lo hi
  rw [e, Nat.sub_add_cancel h4]
end States

section Steps
variable (c : Dev nD) (X : Cont (F := F) c xM) (w : Vec F S128x128 .f32) (bias : Vec F S1x128 .f32)

/-- The four slots before point `k`. -/
def slots (k : ℕ) : sProp 𝕄 := bigSep Finset.univ fun s => slotAt c X w bias s k

/-- The slot a point names, and the others, which the point leaves alone. -/
theorem slots_split (t k : ℕ) : slots c X w bias k
    = iprop(slotAt c X w bias (Ring.sl 4 t) k ∗ bigSep (Finset.univ.erase (Ring.sl 4 t)) fun s => slotAt c X w bias s k) :=
  BI.bigSep_erase (Finset.mem_univ _)
/-- The other slots are after the point as they were before it. -/
theorem others (t : ℕ) (h0 : 1 ≤ t) (h7 : t < 7) :
    (bigSep (Finset.univ.erase (Ring.sl 4 t)) fun s => slotAt c X w bias s (t + 1)) = bigSep (Finset.univ.erase (Ring.sl 4 t)) fun s => slotAt c X w bias s t :=
  bigSep_congr fun s hs => slotAt_other c X w bias s t h0 h7 (Finset.ne_of_mem_erase hs)

variable (t : Fin cfg0.N) (arg1 : Memref sig .tc .vmem S1x128 .i32) (harg1 : arg1.IsWhole) (arg3 : Memref sig .tc .vmem S128x128 .f32) (harg3 : arg3.IsWhole)
  (arg4 : Memref sig .tc .vmem S1x128 .f32) (harg4 : arg4.IsWhole)

/-- The table of weights before point `k`: at the first point the scratch that keeps it holds anything. -/
def tableAt (k : ℕ) : sProp 𝕄 :=
  if k = 0 then iprop(∃ v, owns (c : Thread nD τ) wpM fullShare v) else owns (c : Thread nD τ) wpM fullShare w

/-- All the kernel keeps between two points. -/
def kept (k : ℕ) : sProp 𝕄 := iprop(tableAt c w k ∗ slots c X w bias k)

/-- After the first point the table is there. -/
theorem kept_pos (k : ℕ) (h : k ≠ 0) : kept c X w bias k = iprop(owns (c : Thread nD τ) wpM fullShare w ∗ slots c X w bias k) := by
  unfold kept tableAt; rw [if_neg h]

/-- Points 1 to 3 take what is kept before them to what is kept after them. -/
theorem step_early (h0 : 1 ≤ t.val) (h4 : t.val < 4) (W : Waits sig Unit) (Q : PUnit → sProp 𝕄) :
    iprop(kept c X w bias t.val ∗ owns (c : Thread nD τ) arg4 fullShare bias ∗ owes (c : Thread nD τ) 0 W
        ∗ (iprop(kept c X w bias (t.val + 1) ∗ owns (c : Thread nD τ) arg4 fullShare bias ∗ (∃ W', owes (c : Thread nD τ) 0 W')) -∗ Q ⟨⟩))
      ⊢ wp frame (wpE (defs₀ (F := F)) Variants.none c none) Set.univ (body t arg1 harg1 arg3 harg3 arg4 harg4) Q := by
  rw [kept_pos _ _ _ _ _ (by omega), kept_pos _ _ _ _ _ (by omega), slots_split c X w bias t.val t.val, slots_split c X w bias t.val (t.val + 1),
    others c X w bias t.val h0 (by omega), early_before c X w bias t.val h0 h4, early_after c X w bias t.val h0 h4]
  iintro ⟨⟨Hw, ⟨Hf, Hh, Hy, Ho, Ho'⟩, Hr⟩, Hb, HW, HQ⟩
  iapply (run_early c t arg1 harg1 arg3 harg3 arg4 harg4 (fun h => by have := (isFirst_iff t).1 h; omega) (fun h => by have := (cond2_iff t).1 h; omega)
    ((cond3_iff t).2 h4) (fun h => by have := (isLast_iff t).1 h; omega) w bias X W Q)
  isplitl [Hb]; · iexact Hb
  isplitl [Hw]; · iexact Hw
  isplitl [Hf]; · iexact Hf
  isplitl [Hh]; · iexact Hh
  isplitl [Hy]; · iexact Hy
  isplitl [Ho]; · iexact Ho
  isplitl [HW]; · iexact HW
  iintro ⟨Hb, Hw, Hf, Hh, Hy, HW⟩
  iapply HQ
  isplitl [Hw Hf Hh Hy Ho' Hr]
  · isplitl [Hw]; · iexact Hw
    isplitl [Hf Hh Hy Ho']
    · isplitl [Hf]; · iexact Hf
      isplitl [Hh]; · iexact Hh
      isplitl [Hy]; · iexact Hy
      iexact Ho'
    iexact Hr
  isplitl [Hb]; · iexact Hb
  iexact HW

/-- So do points 4 to 6. -/
theorem step_late (h4 : 4 ≤ t.val) (h7 : t.val < 7) (W : Waits sig Unit) (Q : PUnit → sProp 𝕄) :
    iprop(kept c X w bias t.val ∗ owns (c : Thread nD τ) arg4 fullShare bias ∗ owes (c : Thread nD τ) 0 W
        ∗ (iprop(kept c X w bias (t.val + 1) ∗ owns (c : Thread nD τ) arg4 fullShare bias ∗ (∃ W', owes (c : Thread nD τ) 0 W')) -∗ Q ⟨⟩))
      ⊢ wp frame (wpE (defs₀ (F := F)) Variants.none c none) Set.univ (body t arg1 harg1 arg3 harg3 arg4 harg4) Q := by
  rw [kept_pos _ _ _ _ _ (by omega), kept_pos _ _ _ _ _ (by omega), slots_split c X w bias t.val t.val, slots_split c X w bias t.val (t.val + 1),
    others c X w bias t.val (by omega) h7, late_before c X w bias t.val h4 (by omega), late_after c X w bias t.val h4 h7]
  iintro ⟨⟨Hw, ⟨Hf, Hh, Hy, Ho⟩, Hr⟩, Hb, HW, HQ⟩
  iapply (run_late c t arg1 harg1 arg3 harg3 arg4 harg4 (fun h => by have := (isFirst_iff t).1 h; omega) ((cond2_iff t).2 h4)
    (fun h => by have := (cond3_iff t).1 h; omega) (fun h => by have := (isLast_iff t).1 h; omega) w bias X (rowsAt c X w bias (Ring.bk 8 (t.val - 4))) W Q)
  isplitl [Hb]; · iexact Hb
  isplitl [Hw]; · iexact Hw
  isplitl [Hf]; · iexact Hf
  isplitl [Hy]; · iexact Hy
  isplitl [Ho]; · iexact Ho
  isplitl [HW]; · iexact HW
  iintro ⟨Hb, Hw, Hf, Hh', Hd, Hy, HW⟩
  iapply HQ
  isplitl [Hw Hf Hh Hh' Hy Hd Hr]
  · isplitl [Hw]; · iexact Hw
    isplitl [Hf Hh Hh' Hy Hd]
    · isplitl [Hf]; · iexact Hf
      isplitl [Hh]; · iexact Hh
      isplitl [Hh']; · iexact Hh'
      isplitl [Hy]; · iexact Hy
      iexact Hd
    iexact Hr
  isplitl [Hb]; · iexact Hb
  iexact HW

/-- The slots at the points where all four are in hand, each by its number. -/
theorem slots_four (k : ℕ) : slots c X w bias k
    = iprop(slotAt c X w bias 0 k ∗ slotAt c X w bias 1 k ∗ slotAt c X w bias 2 k ∗ slotAt c X w bias 3 k) := four _

/-- So does point 0, which builds the table from the indices and the weights. -/
theorem step_first (h0 : t.val = 0) (idx : Vec F S1x128 .i32) (wt : Vec F S128x128 .f32) (W : Waits sig Unit) (Q : PUnit → sProp 𝕄) :
    iprop(kept c X (k0_pay1 idx wt) bias t.val ∗ owns (c : Thread nD τ) arg1 fullShare idx ∗ owns (c : Thread nD τ) arg3 fullShare wt ∗ owns (c : Thread nD τ) arg4 fullShare bias ∗ owes (c : Thread nD τ) 0 W
        ∗ (iprop(kept c X (k0_pay1 idx wt) bias (t.val + 1) ∗ owns (c : Thread nD τ) arg1 fullShare idx ∗ owns (c : Thread nD τ) arg3 fullShare wt ∗ owns (c : Thread nD τ) arg4 fullShare bias ∗ (∃ W', owes (c : Thread nD τ) 0 W')) -∗ Q ⟨⟩))
      ⊢ wp frame (wpE (defs₀ (F := F)) Variants.none c none) Set.univ (body t arg1 harg1 arg3 harg3 arg4 harg4) Q := by
  have run := run_first c t arg1 harg1 arg3 harg3 arg4 harg4 ((isFirst_iff t).2 h0) (fun h => by have := (cond2_iff t).1 h; omega) ((cond3_iff t).2 (by omega))
    (fun h => by have := (isLast_iff t).1 h; omega) idx wt bias X W Q
  generalize k0_pay1 idx wt = w at run ⊢
  generalize body (F := F) t arg1 harg1 arg3 harg3 arg4 harg4 = p at run ⊢
  rw [h0] at run ⊢
  rw [kept_pos c X w bias (0 + 1) (by omega), slots_four c X w bias (0 + 1)]
  unfold kept
  rw [slots_four c X w bias 0]
  have e0 : slotAt c X w bias 0 (0 + 1) = midway c X w bias 0 := rfl
  have e1 : slotAt c X w bias 1 (0 + 1) = coming c X 1 := rfl
  have e2 : slotAt c X w bias 2 (0 + 1) = coming c X 2 := rfl
  have e3 : slotAt c X w bias 3 (0 + 1) = coming c X 3 := rfl
  rw [e0, e1, e2, e3]
  rw [slotAt_zero c X w bias 0, slotAt_zero c X w bias 1, slotAt_zero c X w bias 2, slotAt_zero c X w bias 3]
  rw [show tableAt c w 0 = iprop(∃ v, owns (c : Thread nD τ) wpM fullShare v) from rfl]
  refine BIBase.Entails.trans ?_ run
  unfold resting coming midway
  iintro ⟨⟨Hw, ⟨Hx0, Hl0, Hh0, Hy0, Ha0, Hb0⟩, ⟨Hx1, Hl1, Hr1⟩, ⟨Hx2, Hl2, Hr2⟩, ⟨Hx3, Hl3, Hr3⟩⟩, H1, H3, H4, HW, HQ⟩
  isplitl [H1]; · iexact H1
  isplitl [H3]; · iexact H3
  isplitl [H4]; · iexact H4
  isplitl [Hw]; · iexact Hw
  isplitl [Hx0 Hl0]
  · isplitl [Hx0]; · iexact Hx0
    iexact Hl0
  isplitl [Hx1 Hl1]
  · isplitl [Hx1]; · iexact Hx1
    iexact Hl1
  isplitl [Hx2 Hl2]
  · isplitl [Hx2]; · iexact Hx2
    iexact Hl2
  isplitl [Hx3 Hl3]
  · isplitl [Hx3]; · iexact Hx3
    iexact Hl3
  isplitl [Hh0]; · iexact Hh0
  isplitl [Hy0]; · iexact Hy0
  isplitl [Ha0]; · iexact Ha0
  isplitl [HW]; · iexact HW
  iintro ⟨H1, H3, H4, Hw, Hf0, Hl0, Hy0, Hf1, Hf2, Hf3, HW⟩
  iapply HQ
  isplitl [Hw Hf0 Hl0 Hy0 Hf1 Hf2 Hf3 Hb0 Hr1 Hr2 Hr3]
  · isplitl [Hw]; · iexact Hw
    isplitl [Hf0 Hl0 Hy0 Hb0]
    · isplitl [Hf0]; · iexact Hf0
      isplitl [Hl0]; · iexact Hl0
      isplitl [Hy0]; · iexact Hy0
      iexact Hb0
    isplitl [Hf1 Hr1]
    · isplitl [Hf1]; · iexact Hf1
      iexact Hr1
    isplitl [Hf2 Hr2]
    · isplitl [Hf2]; · iexact Hf2
      iexact Hr2
    isplitl [Hf3]; · iexact Hf3
    iexact Hr3
  isplitl [H1]; · iexact H1
  isplitl [H3]; · iexact H3
  isplitl [H4]; · iexact H4
  iexact HW

/-- So does point 7, which waits for every copy that is still on its way out. -/
theorem step_last (h7 : t.val = 7) (W : Waits sig Unit) (Q : PUnit → sProp 𝕄) :
    iprop(kept c X w bias t.val ∗ owns (c : Thread nD τ) arg4 fullShare bias ∗ owes (c : Thread nD τ) 0 W
        ∗ (iprop(kept c X w bias (t.val + 1) ∗ owns (c : Thread nD τ) arg4 fullShare bias ∗ (∃ W', owes (c : Thread nD τ) 0 W')) -∗ Q ⟨⟩))
      ⊢ wp frame (wpE (defs₀ (F := F)) Variants.none c none) Set.univ (body t arg1 harg1 arg3 harg3 arg4 harg4) Q := by
  have run := run_last c t arg1 harg1 arg3 harg3 arg4 harg4 (fun h => by have := (isFirst_iff t).1 h; omega) ((cond2_iff t).2 (by omega))
    (fun h => by have := (cond3_iff t).1 h; omega) ((isLast_iff t).2 h7) w bias X (rowsAt c X w bias (lo 3)) (rowsAt c X w bias (hi 0)) (rowsAt c X w bias (hi 1))
    (rowsAt c X w bias (hi 2)) W Q
  generalize body (F := F) t arg1 harg1 arg3 harg3 arg4 harg4 = p at run ⊢
  rw [h7] at run ⊢
  rw [kept_pos _ _ _ _ _ (by omega), kept_pos _ _ _ _ _ (by omega), slots_four c X w bias 7, slots_four c X w bias (7 + 1)]
  have e0 : slotAt c X w bias 0 7 = going c X w bias 0 := rfl
  have e1 : slotAt c X w bias 1 7 = going c X w bias 1 := rfl
  have e2 : slotAt c X w bias 2 7 = going c X w bias 2 := rfl
  have e3 : slotAt c X w bias 3 7 = midway c X w bias 3 := rfl
  have e4 (s : Fin 4) : slotAt c X w bias s (7 + 1) = finished c X w bias s := slotAt_end c X w bias s
  rw [e0, e1, e2, e3, e4 0, e4 1, e4 2, e4 3]
  refine BIBase.Entails.trans ?_ run
  unfold going midway finished
  iintro ⟨⟨Hw, ⟨Hx0, Hl0, Hh0, Hy0, Hd0⟩, ⟨Hx1, Hl1, Hh1, Hy1, Hd1⟩, ⟨Hx2, Hl2, Hh2, Hy2, Hd2⟩, ⟨Hx3, Hl3, Hy3, Ho3⟩⟩, H4, HW, HQ⟩
  isplitl [H4]; · iexact H4
  isplitl [Hw]; · iexact Hw
  isplitl [Hx3]; · iexact Hx3
  isplitl [Hy3]; · iexact Hy3
  isplitl [Ho3]; · iexact Ho3
  isplitl [Hy0]; · iexact Hy0
  isplitl [Hy1]; · iexact Hy1
  isplitl [Hy2]; · iexact Hy2
  isplitl [HW]; · iexact HW
  iintro ⟨H4, Hw, Hx3, Hh3, Hd3, ⟨Hy3, Hg3⟩, ⟨Hy0, Hg0⟩, ⟨Hy1, Hg1⟩, ⟨Hy2, Hg2⟩, HW⟩
  iapply HQ
  isplitl [Hw Hx0 Hl0 Hh0 Hy0 Hd0 Hg0 Hx1 Hl1 Hh1 Hy1 Hd1 Hg1 Hx2 Hl2 Hh2 Hy2 Hd2 Hg2 Hx3 Hl3 Hh3 Hy3 Hd3 Hg3]
  · isplitl [Hw]; · iexact Hw
    isplitl [Hx0 Hl0 Hh0 Hy0 Hd0 Hg0]
    · isplitl [Hx0]; · iexact Hx0
      isplitl [Hl0]; · iexact Hl0
      isplitl [Hh0]; · iexact Hh0
      isplitl [Hy0]; · iexact Hy0
      isplitl [Hd0]; · iexact Hd0
      iexact Hg0
    isplitl [Hx1 Hl1 Hh1 Hy1 Hd1 Hg1]
    · isplitl [Hx1]; · iexact Hx1
      isplitl [Hl1]; · iexact Hl1
      isplitl [Hh1]; · iexact Hh1
      isplitl [Hy1]; · iexact Hy1
      isplitl [Hd1]; · iexact Hd1
      iexact Hg1
    isplitl [Hx2 Hl2 Hh2 Hy2 Hd2 Hg2]
    · isplitl [Hx2]; · iexact Hx2
      isplitl [Hl2]; · iexact Hl2
      isplitl [Hh2]; · iexact Hh2
      isplitl [Hy2]; · iexact Hy2
      isplitl [Hd2]; · iexact Hd2
      iexact Hg2
    isplitl [Hx3]; · iexact Hx3
    isplitl [Hl3]; · iexact Hl3
    isplitl [Hh3]; · iexact Hh3
    isplitl [Hy3]; · iexact Hy3
    isplitl [Hd3]; · iexact Hd3
    iexact Hg3
  isplitl [H4]; · iexact H4
  iexact HW
end Steps

end Cert.Kernel.Stream
-- ==== Proof.Launch.lean ====
/- The kernel's launch: from any memory, what the program leaves. -/
module

public import proofs.«01_k».proof.Proof.Stream
public import Idealize.ShloMosaic.Lib.ValueIdx
public import Idealize.ShloMosaic.Lib.ValueIdxCoords

@[expose] public section

set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.ValueIdx

variable {F : FTy → Type} [FloatOps F]

local notation "𝕄" => MT nD τ sig Unit (Elt F) ℕ (Pipeline.UD sig nD τ) ℕ

/-! ## The array the kernel fills -/

/-- Reading block `b` at a row is reading the array at that row of the block. -/
theorem read_xBlock (c : Dev nD) (b : Fin 8) (X : Cont (F := F) c xM) (r : Fin 13312) (k : Fin 128) :
    (xBlock b).view.read (Elt F) X (ix2 r k) = (X : Vec F S106496x128 .f32) (ix2 ⟨13312 * b.val + r.val, by have := b.isLt; have := r.isLt; omega⟩ k) := by
  refine congrArg (X : Vec F S106496x128 .f32) (funext fun a => ?_)
  match a with
  | ⟨0, _⟩ => exact Fin.ext (show 13312 * b.val + 1 * r.val = 13312 * b.val + r.val by omega)
  | ⟨1, _⟩ => exact Fin.ext (show 0 + 1 * k.val = k.val by omega)
/-- Element `(r, k)` of block `b` of the output is element `(13312 b + r, k)` of the array. -/
theorem read_oBlock (c : Dev nD) (b : Fin 8) (X : Cont (F := F) c oM) (r : Fin 13312) (k : Fin 128) :
    (oBlock b).view.read (Elt F) X (ix2 r k) = (X : Vec F S106496x128 .f32) (ix2 ⟨13312 * b.val + r.val, by have := b.isLt; have := r.isLt; omega⟩ k) := by
  refine congrArg (X : Vec F S106496x128 .f32) (funext fun a => ?_)
  match a with
  | ⟨0, _⟩ => exact Fin.ext (show 13312 * b.val + 1 * r.val = 13312 * b.val + r.val by omega)
  | ⟨1, _⟩ => exact Fin.ext (show 0 + 1 * k.val = k.val by omega)

/-- The array whose every block is what a point computes from that block of the input. -/
def filled (c : Dev nD) (X : Cont (F := F) c xM) (w : Vec F S128x128 .f32) (bias : Vec F S1x128 .f32) : Vec F S106496x128 .f32 :=
  fun i => rowsAt c X w bias ⟨(i 0).val / 13312, by have := idx2_lt0 i; omega⟩ (ix2 ⟨(i 0).val % 13312, Nat.mod_lt _ (by decide)⟩ (i 1))
/-- Block `b` of that array reads as what is computed from block `b` of the input. -/
theorem read_filled (c : Dev nD) (X : Cont (F := F) c xM) (w : Vec F S128x128 .f32) (bias : Vec F S1x128 .f32) (b : Fin 8) :
    (oBlock b).view.read (Elt F) (filled c X w bias : Cont (F := F) c oM) = rowsAt c X w bias b := by
  funext y
  rw [eq_ix2 y]
  refine (read_oBlock c b _ _ _).trans ?_
  have hr := idx2_lt0 y
  have e1 : (⟨(13312 * b.val + (y 0).val) / 13312, by have := b.isLt; omega⟩ : Fin 8) = b := Fin.ext (by show (13312 * b.val + (y 0).val) / 13312 = b.val; omega)
  have e2 : (⟨(13312 * b.val + (y 0).val) % 13312, Nat.mod_lt _ (by decide)⟩ : Fin 13312) = y 0 := Fin.ext (by show (13312 * b.val + (y 0).val) % 13312 = (y 0).val; omega)
  exact congr (congrArg (rowsAt c X w bias) e1) (congrArg (fun r : Fin 13312 => ix2 r (y 1)) e2)

/-! ## The proof data of the pipeline -/

variable (m : (ℓ : Loc nD τ sig) → Buf (Elt F) ℓ) (ρ : Dev nD → PrngReg)

/-- A window's block does not depend on the point. -/
theorem same_block (c : Dev nD) (t : Fin cfg0.N) : iblk m c 0 t = iblk m c 0 t0_0 ∧ iblk m c 1 t = iblk m c 1 t0_0 ∧ iblk m c 2 t = iblk m c 2 t0_0 :=
  ⟨rfl, rfl, rfl⟩

/-- The table of weights the first point builds, and the bias. -/
abbrev table (c : Dev nD) : Vec F S128x128 .f32 := k0_pay1 (iblk m c 0 t0_0) (iblk m c 1 t0_0)
abbrev biasOf (c : Dev nD) : Vec F S1x128 .f32 := iblk m c 2 t0_0
/-- What the kernel leaves in the output array. -/
abbrev result (c : Dev nD) : Vec F S106496x128 .f32 := filled c (V m c main_v3) (table m c) (biasOf m c)
/-- What is kept before point `k`. -/
abbrev keptOf (c : Dev nD) (k : ℕ) : sProp 𝕄 := kept c (V m c main_v3) (table m c) (biasOf m c) k

/-- The pipeline's windows hold the same blocks before and after every point; between points it keeps what `keptOf` says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := keptOf m c t.val
  q _ := fullShare
  owed _ := 0

/-- The windows' arrays are as the launch finds them. -/
theorem dats_A (c : Dev nD) (w : Fin cfg0.W) : (dats m 0 c).A w = V m c (Pipeline.arrRef spec0 w) := by dsimp only [dats]
/-- Each window holds its block before every point. -/
theorem dats_before (c : Dev nD) (t : Fin cfg0.N) (d0 d1 d2) :
    (dats m 0 c).before 0 t d0 = iblk m c 0 t ∧ (dats m 0 c).before 1 t d1 = iblk m c 1 t ∧ (dats m 0 c).before 2 t d2 = iblk m c 2 t := by
  refine ⟨?_, ?_, ?_⟩
  · exact ((dats m 0 c).before_in_eq_fetched 0 rfl (fun _ => rfl) (fun _ _ _ => rfl) (fun t => rfl) t d0).trans rfl
  · exact ((dats m 0 c).before_in_eq_fetched 1 rfl (fun _ => rfl) (fun _ _ _ => rfl) (fun t => rfl) t d1).trans rfl
  · exact ((dats m 0 c).before_in_eq_fetched 2 rfl (fun _ => rfl) (fun _ _ _ => rfl) (fun t => rfl) t d2).trans rfl

/-- A point, from what is kept before it to what is kept after it. -/
theorem point (c : Dev nD) (t : Fin cfg0.N) (W : Waits sig Unit) (Q : PUnit → sProp 𝕄) :
    iprop(keptOf m c t.val ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owes (c : Thread nD τ) 0 W
        ∗ (iprop(keptOf m c (t.val + 1) ∗ owns (c : Thread nD τ) (st0_0 t) fullShare (iblk m c 0 t) ∗ owns (c : Thread nD τ) (st0_1 t) fullShare (iblk m c 1 t)
            ∗ owns (c : Thread nD τ) (st0_2 t) fullShare (iblk m c 2 t) ∗ (∃ W', owes (c : Thread nD τ) 0 W')) -∗ Q ⟨⟩))
      ⊢ wp frame (wpE (defs₀ (F := F)) Variants.none c none) Set.univ (bodyAt0 t) Q := by
  rw [(same_block m c t).1, (same_block m c t).2.1, (same_block m c t).2.2]
  have hN : t.val < 8 := lt_of_lt_of_eq t.isLt N_0
  by_cases h0 : t.val = 0
  · exact step_first c (V m c main_v3) (biasOf m c) t _ _ _ _ _ _ h0 (iblk m c 0 t0_0) (iblk m c 1 t0_0) W Q
  · iintro ⟨HK, H0, H1, H2, HW, HQ⟩
    have step : iprop(keptOf m c t.val ∗ owns (c : Thread nD τ) (st0_2 t) fullShare (biasOf m c) ∗ owes (c : Thread nD τ) 0 W
        ∗ (iprop(keptOf m c (t.val + 1) ∗ owns (c : Thread nD τ) (st0_2 t) fullShare (biasOf m c) ∗ (∃ W', owes (c : Thread nD τ) 0 W')) -∗ Q ⟨⟩))
        ⊢ wp frame (wpE (defs₀ (F := F)) Variants.none c none) Set.univ (bodyAt0 t) Q := by
      by_cases h4 : t.val < 4
      · exact step_early c (V m c main_v3) (table m c) (biasOf m c) t _ (hstage0_0 ((cfg0.slots t 0).cast nbuf0_0)) _ (hstage0_1 ((cfg0.slots t 1).cast nbuf0_1)) _ (hstage0_2 ((cfg0.slots t 2).cast nbuf0_2)) (by omega) h4 W Q
      by_cases h7 : t.val < 7
      · exact step_late c (V m c main_v3) (table m c) (biasOf m c) t _ (hstage0_0 ((cfg0.slots t 0).cast nbuf0_0)) _ (hstage0_1 ((cfg0.slots t 1).cast nbuf0_1)) _ (hstage0_2 ((cfg0.slots t 2).cast nbuf0_2)) (by omega) h7 W Q
      · exact step_last c (V m c main_v3) (table m c) (biasOf m c) t _ (hstage0_0 ((cfg0.slots t 0).cast nbuf0_0)) _ (hstage0_1 ((cfg0.slots t 1).cast nbuf0_1)) _ (hstage0_2 ((cfg0.slots t 2).cast nbuf0_2)) (by omega) W Q
    iapply step
    isplitl [HK]; · iexact HK
    isplitl [H2]; · iexact H2
    isplitl [HW]; · iexact HW
    iintro ⟨HK, H2, HW⟩
    iapply HQ
    isplitl [HK]; · iexact HK
    isplitl [H0]; · iexact H0
    isplitl [H1]; · iexact H1
    isplitl [H2]; · iexact H2
    iexact HW

/-- The same in the terms of the pipeline. -/
theorem point_sound (c : Dev nD) (t : Fin cfg0.N) :
    iprop((dats m 0 c).Φ t.castSucc ∗ (dats m 0 c).owesAt () t.castSucc
        ∗ (∃ d, owns (c : Thread nD τ) (st0_0 t) fullShare ((dats m 0 c).before 0 t d)) ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := F)) Variants.none c none) Set.univ (bodyAt0 t)
        (fun _ => iprop((dats m 0 c).Φ t.succ ∗ (dats m 0 c).owesAt () t.succ
          ∗ owns (c : Thread nD τ) (st0_0 t) fullShare ((dats m 0 c).after 0 t) ∗ owns (c : Thread nD τ) (st0_1 t) fullShare ((dats m 0 c).after 1 t)
          ∗ owns (c : Thread nD τ) (st0_2 t) fullShare ((dats m 0 c).after 2 t))) := by
  rw [show (dats m 0 c).Φ t.castSucc = keptOf m c t.val from rfl, show (dats m 0 c).Φ t.succ = keptOf m c (t.val + 1) from rfl,
    show (dats m 0 c).after 0 t = iblk m c 0 t from rfl, show (dats m 0 c).after 1 t = iblk m c 1 t from rfl, show (dats m 0 c).after 2 t = iblk m c 2 t from rfl]
  unfold Dat.owesAt Pipeline.owesWithin
  rw [show (dats m 0 c).owed t.castSucc = 0 from rfl, show (dats m 0 c).owed t.succ = 0 from rfl]
  iintro ⟨HK, ⟨%W, -, HW⟩, ⟨%d0, H0⟩, ⟨%d1, H1⟩, ⟨%d2, H2⟩⟩
  rw [(dats_before m c t d0 d1 d2).1, (dats_before m c t d0 d1 d2).2.1, (dats_before m c t d0 d1 d2).2.2]
  iapply (point m c t W _)
  isplitl [HK]; · iexact HK
  isplitl [H0]; · iexact H0
  isplitl [H1]; · iexact H1
  isplitl [H2]; · iexact H2
  isplitl [HW]; · iexact HW
  iintro ⟨HK, H0, H1, H2, ⟨%W', HW⟩⟩
  isplitl [HK]; · iexact HK
  isplitl [HW]
  · iexists W'
    isplitr; · ipureintro; exact fun _ _ => Or.inl trivial
    iexact HW
  isplitl [H0]; · iexact H0
  isplitl [H1]; · iexact H1
  iexact H2

/-- The function that the pipeline calls at a point is the kernel's body. -/
theorem row_of_table (t : Fin cfg0.N) : defs₀ (F := F) .tc cfg0.body (cfg0.bodyArgs t (cfg0.slots t)) = bodyAt0 t := by
  unfold defs₀; rw [Defs.onTc_tc]
/-- The body does at every point what the pipeline asks of it. -/
theorem obligation (c : Dev nD) : BodyObligation (dats (F := F) m 0 c) (defs₀ (F := F)) Variants.none () Set.univ := fun t => by
  rw [bigSep_W0, bigSep_W0, row_of_table]
  exact triple_restated (point_sound m c t) rfl .rfl fun _ => .rfl

/-! ## Into and out of the launch -/

/-- The eight blocks are the slots' first blocks and the slots' second blocks. -/
theorem halves (Φ : Fin 8 → sProp 𝕄) : bigSep Finset.univ Φ ⊢ iprop((bigSep Finset.univ fun s => Φ (lo s)) ∗ bigSep Finset.univ fun s => Φ (hi s)) := by
  rw [eight, four, four, show lo 0 = 0 from rfl, show lo 1 = 1 from rfl, show lo 2 = 2 from rfl, show lo 3 = 3 from rfl]
  iintro ⟨H0, H1, H2, H3, H4⟩
  isplitl [H0 H1 H2 H3]
  · isplitl [H0]; · iexact H0
    isplitl [H1]; · iexact H1
    isplitl [H2]; · iexact H2
    iexact H3
  iexact H4
/-- And back. -/
theorem halves' (Φ : Fin 8 → sProp 𝕄) : iprop((bigSep Finset.univ fun s => Φ (lo s)) ∗ bigSep Finset.univ fun s => Φ (hi s)) ⊢ bigSep Finset.univ Φ := by
  rw [eight, four, four, show lo 0 = 0 from rfl, show lo 1 = 1 from rfl, show lo 2 = 2 from rfl, show lo 3 = 3 from rfl]
  iintro ⟨⟨H0, H1, H2, H3⟩, H4⟩
  isplitl [H0]; · iexact H0
  isplitl [H1]; · iexact H1
  isplitl [H2]; · iexact H2
  isplitl [H3]; · iexact H3
  iexact H4
/-- The kernel's cells, the cells in and the cells out. -/
theorem cells_eq (c : Dev nD) : iprop(idle (F := F) c (xCell 0) ∗ idle c (xCell 1) ∗ idle c (xCell 2) ∗ idle c (xCell 3) ∗ idle c (yCell 0) ∗ idle c (yCell 1) ∗ idle c (yCell 2) ∗ idle c (yCell 3))
    = bigSep Finset.univ (Fin.append (fun s : Fin 4 => idle (F := F) c (xCell s)) (fun s : Fin 4 => idle (F := F) c (yCell s))) := by
  exact (eight (Fin.append (fun s : Fin 4 => idle (F := F) c (xCell s)) (fun s : Fin 4 => idle (F := F) c (yCell s)))).symm

/-- Pairs side by side are the first ones and the second ones. -/
theorem two (A B : Fin 4 → sProp 𝕄) : (bigSep Finset.univ fun s => iprop(A s ∗ B s)) = iprop(bigSep Finset.univ A ∗ bigSep Finset.univ B) := bigSep_sep _ _ _

/-- Before the first point all is at rest; after the last all is done. Kind by kind: -/
theorem slots_start (c : Dev nD) (X : Cont (F := F) c xM) (w bias) : slots c X w bias 0
    = iprop(((bigSep Finset.univ fun s => idle c (xCell s)) ∗ bigSep Finset.univ fun s => iprop(∃ f, held (F := F) c (xSlot s) f))
        ∗ (bigSep Finset.univ fun s => xHome c X (lo s)) ∗ (bigSep Finset.univ fun s => xHome c X (hi s))
        ∗ ((bigSep Finset.univ fun s => idle c (yCell s)) ∗ bigSep Finset.univ fun s => iprop(∃ f, held (F := F) c (ySlot s) f))
        ∗ (bigSep Finset.univ fun s => oAny c (lo s)) ∗ (bigSep Finset.univ fun s => oAny c (hi s))) := by
  unfold slots
  rw [bigSep_congr fun s _ => slotAt_zero c X w bias s]
  unfold resting
  rw [two, two, two, two, two, two, two]
/-- After the last point, kind by kind, with the computed rows in every block of the output. -/
theorem slots_finish (c : Dev nD) (X : Cont (F := F) c xM) (w bias) : slots c X w bias 8
    = iprop(((bigSep Finset.univ fun s => idle c (xCell s)) ∗ bigSep Finset.univ fun s => iprop(∃ f, held (F := F) c (xSlot s) f))
        ∗ (bigSep Finset.univ fun s => xHome c X (lo s)) ∗ (bigSep Finset.univ fun s => xHome c X (hi s))
        ∗ ((bigSep Finset.univ fun s => idle c (yCell s)) ∗ bigSep Finset.univ fun s => iprop(∃ f, held (F := F) c (ySlot s) f))
        ∗ (bigSep Finset.univ fun s => oDone c (rowsAt c X w bias (lo s)) (lo s)) ∗ (bigSep Finset.univ fun s => oDone c (rowsAt c X w bias (hi s)) (hi s))) := by
  unfold slots
  rw [bigSep_congr fun s _ => slotAt_end c X w bias s]
  unfold finished
  rw [two, two, two, two, two, two, two]

/-- What the launch hands the kernel is what is kept before the first point. -/
theorem enter (c : Dev nD) : Pipeline.ΦDRV osem spec0 inRefs outRefs (V m) (V m) c ⊢ (dats m 0 c).Φ 0 := by
  rw [handed, show (dats m 0 c).Φ 0 = keptOf m c 0 from rfl]
  unfold keptOf kept
  rw [show tableAt c (table m c) 0 = iprop(∃ v, owns (c : Thread nD τ) wpM fullShare v) from rfl, slots_start, cells_eq]
  iintro ⟨⟨Hxs, Hys, ⟨%fw, Hwp⟩⟩, Hc, HX, HO⟩
  ihave Hxs := (xs_split (F := F) c) $$ Hxs
  ihave Hys := (ys_split (F := F) c) $$ Hys
  ihave HX := (Entails.of_eq (home_split c (V m c main_v3))) $$ HX
  ihave HO := (out_split c (V m c main_v4)) $$ HO
  ihave HX := (halves _) $$ HX
  ihave HO := (halves _) $$ HO
  ihave Hc := (halves _) $$ Hc
  icases HX with ⟨HX, HX'⟩
  icases HO with ⟨HO, HO'⟩
  icases Hc with ⟨Hx, Hy⟩
  isplitl [Hwp]
  · iexists fw
    rw [owns_whole]
    iexact Hwp
  isplitl [Hx Hxs]
  · isplitl [Hx]; · iexact Hx
    iexact Hxs
  isplitl [HX]; · iexact HX
  isplitl [HX']; · iexact HX'
  isplitl [Hy Hys]
  · isplitl [Hy]; · iexact Hy
    iexact Hys
  isplitl [HO]; · iexact HO
  iexact HO'

/-- What the launch takes back: the buffers as it found them, except the output array, which is filled. -/
def leftAt (c : Dev nD) (b : Ref sig .tc) : Buf (Elt F) ((c : Thread nD τ).loc b) :=
  if h : b = main_v4 then h ▸ (result m c : Cont (F := F) c oM) else V m c b
/-- The output array is left filled. -/
theorem leftAt_v4 (c : Dev nD) : leftAt m c main_v4 = (result m c : Cont (F := F) c oM) := dif_pos rfl

/-- What is kept after the last point is what the launch takes back. -/
theorem leave (c : Dev nD) : (dats m 0 c).Φ (Fin.last cfg0.N) ⊢ Pipeline.ΦDRV osem spec0 inRefs outRefs (V m) (leftAt m) c := by
  rw [handed, show (dats m 0 c).Φ (Fin.last cfg0.N) = keptOf m c grid0.N from rfl, N_0]
  unfold keptOf
  rw [kept_pos _ _ _ _ _ (by decide), owns_whole, slots_finish, cells_eq, leftAt_v4]
  iintro ⟨Hwp, ⟨Hx, Hxs⟩, HX, HX', ⟨Hy, Hys⟩, HO, HO'⟩
  isplitl [Hxs Hys Hwp]
  · isplitl [Hxs]
    · iapply (xs_join c (V m c cc0_scratch0))
      iexact Hxs
    isplitl [Hys]
    · iapply (ys_join c (V m c cc0_scratch1))
      iexact Hys
    · iexists (table m c)
      iexact Hwp
  isplitl [Hx Hy]
  · iapply (halves' _)
    isplitl [Hx]; · iexact Hx
    iexact Hy
  isplitl [HX HX']
  · iapply (Entails.of_eq (home_split c (V m c main_v3)).symm)
    iapply (halves' (fun b => xHome c (V m c main_v3) b))
    isplitl [HX]; · iexact HX
    iexact HX'
  · iapply (out_join c (result m c))
    rw [bigSep_congr fun b _ => congrArg (fun o => oDone c o b) (read_filled c (V m c main_v3) (table m c) (biasOf m c) b)]
    iapply (halves' (fun b => oDone c (rowsAt c (V m c main_v3) (table m c) (biasOf m c) b) b))
    isplitl [HO]; · iexact HO
    iexact HO'

/-! ## The run -/

/-- The program is the host's lines before the call, the call, and the host's lines after it. -/
theorem main_around : Pipeline.HMainK (Ix := Unit) (Name := ℕ) (U := Pipeline.UD sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The buffers when the pipeline has run, as the later lines of the host find them; and the memory after these. -/
abbrev between (c : Dev nD) : Valuation τ sig (Elt F) :=
  Pipeline.withArrays spec0 c (Pipeline.withR (V0 m c) outRefs c (leftAt m c)) fun w => (dats m 0 c).arrAt w cfg0.N
abbrev finally_ (c : Dev nD) (b : Ref sig .tc) : Buf (Elt F) ((c : Thread nD τ).loc b) :=
  StableHlo.after (List.flatten [hostOps1]) (between m c) (Proc.devRef .tc b)

set_option backward.isDefEq.respectTransparency.types false in
set_option maxHeartbeats 800000 in
/-- The whole program ends, every semaphore at zero and every buffer as `finally_` says. -/
theorem launch : θ_run defs (onTc (τ := τ) (main (F := F))) (s₀ m ρ) (fun r => (∀ c : Dev nD,
      (∀ w, r.2.mem ((spec0 w).arr.view.loc (c.tc : Thread nD τ)) = (dats m 0 c).arrAt w cfg0.N) ∧ ∀ b ∈ Pipeline.restRefs sig spec0, r.2.mem ((c.tc : Thread nD τ).loc b) = finally_ m c b)
      ∧ r.2.sem = fun _ => 0) :=
  Pipeline.θ_run_frame_dmaR_aroundV (Q' := _) cfgs (dats m) (0 : Fin 1) launch0 osem defs₀ Variants.none osem_facts inRefs outRefs inRefs_sub outRefs_sub m ρ main
    (hbody := fun c => (obligation m c).loose) (hshare := fun c => (dats m 0 c).share_full fun _ => rfl) (howed := fun _ _ => rfl)
    (V₀ := V0 m) (opss := [hostOps1]) (hsub := sfx_sub) (hfresh := sfx_fresh) (hkeep := sfx_keeps) (G := leftAt m) (hmain := main_around m)
    (hA := dats_A m) (hin := enter m) (hout := leave m)
    (hQ' := fun r h => h)

/-- The later lines leave alone what they do not write. -/
theorem finally_keeps (c : Dev nD) (b : Ref sig .tc) (hb : b ≠ main_v5 ∧ b ≠ main_v6 ∧ b ∉ outRefs ∧ ∀ w, Pipeline.arrRef spec0 w ≠ b) :
    finally_ m c b = V m c b := by
  have h : finally_ m c b = between m c (Proc.devRef .tc b) :=
    StableHlo.after_of_forall_not_mem (b := Proc.devRef .tc b) _ _ (List.forall_iff_forall_mem.mp (by
      simp only [hostOps1, List.flatten_cons, List.flatten_nil, List.append_nil, List.cons_append, List.nil_append, List.Forall, StableHlo.unary_writes,
        StableHlo.reshape_writes, Finset.mem_singleton]
      exact ⟨StableHlo.devRef_ne_of_ne hb.1, StableHlo.devRef_ne_of_ne hb.2.1⟩))
  rw [h]; unfold between; rw [Pipeline.withArrays_of_ne _ c _ _ b hb.2.2.2, Pipeline.withR_of_not_mem _ _ _ _ _ hb.2.2.1]

/-- The array the kernel returns, from the one it fills: the reshape and the transposition after it. -/
def returned (x : Vec F S106496x128 .f32) : Vec F S4096x26x128 .f32 :=
  transpose S4096x26x128 [1, 0, 2] (shapeCast S26x4096x128 x shapeCasts_S106496x128_S26x4096x128) transposes_S26x4096x128_S4096x26x128_1_0_2
/-- The program's result is the filled array, reshaped and transposed. -/
theorem finally_v6 (c : Dev nD) : finally_ m c main_v6 = (returned (result m c) : Buf (Elt F) ((c : Thread nD τ).loc main_v6)) := by
  have h4 : between m c (Proc.devRef .tc main_v4) = (result m c : Cont (F := F) c oM) := by
    unfold between; rw [Pipeline.withArrays_of_ne _ c _ _ main_v4 (by exact (by decide : ∀ w, Pipeline.arrRef spec0 w ≠ main_v4)), Pipeline.withR_of_mem _ _ _ _ main_v4 (by decide), leftAt_v4]
  unfold finally_
  generalize between m c = v at h4 ⊢
  simp only [hostOps1, List.flatten_cons, List.flatten_nil, List.append_nil, StableHlo.after_cons, StableHlo.after_nil]
  rw [StableHlo.unary_result', StableHlo.reshape_result', h4]
  rfl

/-- From any memory the program ends with its arguments unchanged, every semaphore at zero, and this in its result. -/
theorem ends : θ_run defs (onTc (τ := τ) (main (F := F))) ⟨m, fun _ => 0, ρ⟩ (fun r => (∀ c : Dev nD,
      r.2.mem ((c.tc : Thread nD τ).loc main_v6) = (returned (result m c) : Buf (Elt F) ((c : Thread nD τ).loc main_v6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ⟨?_, ?_, ?_, ?_, ?_⟩, h.2⟩) (launch m ρ)
  · exact ((h.1 c).2 main_v6 (Pipeline.mem_restRefs_of main_v6 (by decide) (by decide))).trans (finally_v6 m c)
  · exact ((h.1 c).2 main_arg0 (Pipeline.mem_restRefs_of main_arg0 (by decide) (by decide))).trans ((finally_keeps m c main_arg0 (by decide)).trans (V_main_arg0 m c))
  · exact ((h.1 c).2 main_arg1 (Pipeline.mem_restRefs_of main_arg1 (by decide) (by decide))).trans ((finally_keeps m c main_arg1 (by decide)).trans (V_main_arg1 m c))
  · exact ((h.1 c).1 1).trans (((dats m 0 c).arrAt_in 1 rfl _).trans ((dats_A m c 1).trans (V_main_arg2 m c)))
  · exact ((h.1 c).2 main_arg3 (Pipeline.mem_restRefs_of main_arg3 (by decide) (by decide))).trans ((finally_keeps m c main_arg3 (by decide)).trans (V_main_arg3 m c))

end Cert.Kernel.Stream
-- ==== Proof.Transport.lean ====
/- The idealized program is the program's own text read over the extended reals, so that what is
   proved of the program for any float values holds of it. -/
module

public import proofs.«01_k».proof.Defs
public import proofs.«01_k».proof.Proof.Gen.KernelIdeal
public import proofs.«01_k».proof.Proof.Launch

@[expose] public section

noncomputable section

namespace Cert.Proof

open Idealize.ShloMosaic Idealize.SL.Sem

/-- The two programs have the same kernel functions. -/
theorem defs₀_eq : @Cert.KernelIdeal.defs₀ Ideal _ _ = @Cert.Kernel.defs₀ Ideal _ _ := by
  funext p ℓ a
  unfold Cert.KernelIdeal.defs₀ Cert.Kernel.defs₀
  cases p with
  | tc =>
    match ℓ, a with
    | 0, (t, s) => rfl
    | ⟨n + 1, h⟩, _ => exact absurd h (Nat.not_lt.2 (Nat.le_add_left _ _))
  | scScalar _ => rfl
  | scVector _ _ => rfl

/-- The two programs have the same functions, the launch's included. -/
theorem defs_eq : @Cert.KernelIdeal.defs Ideal _ _ = @Cert.Kernel.defs Ideal _ _ := by
  unfold Cert.KernelIdeal.defs Cert.Kernel.defs
  rw [defs₀_eq]
  rfl

/-- A launch state of the idealized program is one of the program's over the extended reals. -/
abbrev Mem := (ℓ : Loc Cert.KernelIdeal.nD Cert.KernelIdeal.τ Cert.KernelIdeal.sig) → Buf (Elt Ideal) ℓ

/-- What every run of the program over the extended reals ends in, every run of the idealized
    program ends in. -/
theorem transport (m : Mem) (g : Dev Cert.KernelIdeal.nD → PrngReg) (Q : _ → Prop)
    (H : θ_run (Cert.Kernel.defs (F := Ideal)) (onTc (τ := Cert.Kernel.τ) (Cert.Kernel.main (F := Ideal)))
      ⟨m, fun _ => 0, g⟩ Q) :
    θ_run (Cert.KernelIdeal.defs (F := Ideal)) (onTc (τ := Cert.KernelIdeal.τ) (Cert.KernelIdeal.main (F := Ideal)))
      ⟨m, fun _ => 0, g⟩ Q := by
  rw [defs_eq]
  exact H

/-- The program ends, its arguments as they were and every counter at zero. -/
theorem frame_kernel : Cert.quiescent_Kernel := fun m g _ =>
  (θ_run Cert.Kernel.defs _ _).mono (fun _ h => ⟨fun c => (h.1 c).2, h.2⟩) (Cert.Kernel.Stream.ends m g)

/-- So does the idealized program. -/
theorem frame_ideal : Cert.quiescent_KernelIdeal := fun m g _ =>
  transport m g _ ((θ_run Cert.Kernel.defs _ _).mono (fun _ h => ⟨fun c => (h.1 c).2, h.2⟩)
    (Cert.Kernel.Stream.ends (F := Ideal) m g))

end Cert.Proof

end
-- ==== Proof.KernelValue.lean ====
/- What the kernel leaves, over the extended reals, element by element. -/
module

public import proofs.«01_k».proof.Proof.Launch
public import Idealize.ShloMosaic.Lib.Pointwise

@[expose] public section

set_option maxRecDepth 16384

noncomputable section

namespace Cert.Kernel.Value

open Cert.Kernel Cert.Kernel.Gen Cert.Kernel.Stream
open Idealize.ShloMosaic Idealize.ShloMosaic.TcCoe Idealize.SL.Sem

/-- A comparison's bit, made a float, is one where the comparison holds and zero elsewhere. -/
theorem bit_apply (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · simp [IntOp.cmpi, h]
  · have hb : (a == b) = false := beq_false_of_ne h
    simp [IntOp.cmpi, h, hb]

/-- The table: its row `i` is the sum, over the places of the permutation that name `i`, of the
    weights' rows there. -/
theorem table_apply (p : Vec Ideal S1x128 .i32) (W : Vec Ideal S128x128 .f32) (i k : Fin 128) :
    k0_pay1 p W (ix2 i k)
      = ∑ j : Fin 128, (if BitVec.ofNat 32 i.val = p (ix2 0 j) then (1 : EReal) else 0) * W (ix2 j k) := by
  pointwise [k0_pay1]
  exact Finset.sum_congr rfl fun j _ => congrArg (· * (W (ix2 j k) : EReal)) (bit_apply _ _)

/-- The rows a point writes: each is the row of the input times the table, plus the bias. -/
theorem rows_apply (x : Vec Ideal S13312x128 .f32) (w : Vec Ideal S128x128 .f32) (bias : Vec Ideal S1x128 .f32)
    (r : Fin 13312) (k : Fin 128) :
    rows x w bias (ix2 r k) = (∑ i : Fin 128, (x (ix2 r i) : EReal) * w (ix2 i k)) + bias (ix2 0 k) := by
  pointwise [rows, k0_pay2]
  refine congrArg (· + (bias (ix2 0 k) : EReal)) (Finset.sum_congr rfl fun i _ => ?_)
  refine congrArg (fun z => (x z : EReal) * w (ix2 i k)) ?_
  rw [Equiv.symm_apply_eq]
  pointwise

/-- The array the kernel fills, at a row. -/
theorem filled_apply (c : Dev nD) (X : Vec Ideal S106496x128 .f32) (w : Vec Ideal S128x128 .f32)
    (bias : Vec Ideal S1x128 .f32) (n : Fin 106496) (k : Fin 128) :
    filled (F := Ideal) c X w bias (ix2 n k) = (∑ i : Fin 128, (X (ix2 n i) : EReal) * w (ix2 i k)) + bias (ix2 0 k) := by
  have hn := n.isLt
  have e (i : Fin 128) : (xBlock ⟨n.val / 13312, by omega⟩).view.read (Elt Ideal) (X : Cont (F := Ideal) c xM)
      (ix2 ⟨n.val % 13312, Nat.mod_lt _ (by decide)⟩ i) = X (ix2 n i) :=
    (read_xBlock c _ X _ _).trans (congrArg (fun r => X (ix2 r i)) (Fin.ext (Nat.div_add_mod _ _)))
  refine (rows_apply _ w bias ⟨n.val % 13312, Nat.mod_lt _ (by decide)⟩ k).trans ?_
  exact congrArg (· + (bias (ix2 0 k) : EReal)) (Finset.sum_congr rfl fun i _ =>
    congrArg (fun z : EReal => z * w (ix2 i k)) (e i))

/-- What the host makes of the array: the rows of one field are together in it. -/
theorem returned_apply (y : Vec Ideal S106496x128 .f32) (b : Fin 4096) (f : Fin 26) (k : Fin 128) :
    returned y (ix3 b f k) = y (ix2 ⟨f.val * 4096 + b.val, by have := f.isLt; have := b.isLt; omega⟩ k) := by
  pointwise [returned]

/-- What the host gives the kernel: the rows of the input, those of one field together. -/
theorem flat_apply (x : Vec Ideal S4096x26x128 .f32) (b : Fin 4096) (f : Fin 26) (i : Fin 128) :
    shapeCast S106496x128 (transpose S26x4096x128 [1, 0, 2] x transposes_S4096x26x128_S26x4096x128_1_0_2)
      shapeCasts_S26x4096x128_S106496x128 (ix2 ⟨f.val * 4096 + b.val, by have := f.isLt; have := b.isLt; omega⟩ i)
      = x (ix3 b f i) := by
  pointwise

variable (m : (ℓ : Loc nD τ sig) → Buf (Elt Ideal) ℓ) (c : Dev nD)

/-- The input the kernel streams. -/
theorem V_main_v3 : V m c main_v3 = (shapeCast S106496x128 (transpose S26x4096x128 [1, 0, 2]
    (m ((c : Thread nD τ).loc main_arg0) : Vec Ideal S4096x26x128 .f32) transposes_S4096x26x128_S26x4096x128_1_0_2)
    shapeCasts_S26x4096x128_S106496x128 : Vec Ideal S106496x128 .f32) := by
  show StableHlo.after _ _ _ = _
  simp only [hostOps0, List.flatten_cons, List.flatten_nil, List.append_nil]
  after_results_simp
  rfl

/-- The permutation, as one row. -/
theorem block_perm : (iblk m c 0 t0_0 : Vec Ideal S1x128 .i32)
    = shapeCast S1x128 (m ((c : Thread nD τ).loc main_arg1) : Vec Ideal S128 .i32) shapeCasts_S128_S1x128 := by
  have h := fun f => Memref.read_access_unit_zero (Elt Ideal) main_v0 (off := fun a => win0_0.index t0_0 a * main_v0.ty.shape.size a)
    (funext fun a => by fin_cases a <;> decide) (fun a => by fin_cases a <;> decide) f
  refine (h (V m c main_v0)).trans ?_
  show StableHlo.after _ _ _ = _
  simp only [hostOps0, List.flatten_cons, List.flatten_nil, List.append_nil]
  after_results_simp
  rfl

/-- The weights. -/
theorem block_weights : (iblk m c 1 t0_0 : Vec Ideal S128x128 .f32) = m ((c : Thread nD τ).loc main_arg2) := by
  have h := fun f => Memref.read_access_unit_zero (Elt Ideal) main_arg2 (off := fun a => win0_1.index t0_0 a * main_arg2.ty.shape.size a)
    (funext fun a => by fin_cases a <;> decide) (fun a => by fin_cases a <;> decide) f
  refine (h (V m c main_arg2)).trans ?_
  exact V_main_arg2 m c

/-- The bias, as one row. -/
theorem block_bias : (iblk m c 2 t0_0 : Vec Ideal S1x128 .f32)
    = shapeCast S1x128 (m ((c : Thread nD τ).loc main_arg3) : Vec Ideal S128 .f32) shapeCasts_S128_S1x128 := by
  have h := fun f => Memref.read_access_unit_zero (Elt Ideal) main_v1 (off := fun a => win0_2.index t0_0 a * main_v1.ty.shape.size a)
    (funext fun a => by fin_cases a <;> decide) (fun a => by fin_cases a <;> decide) f
  refine (h (V m c main_v1)).trans ?_
  show StableHlo.after _ _ _ = _
  simp only [hostOps0, List.flatten_cons, List.flatten_nil, List.append_nil]
  after_results_simp
  rfl

/-- The kernel's value at an element: the row of the input times the table, whose row `i` is the sum of
    the weights' rows at the places of the permutation that name `i`, plus the bias. -/
def kernelAt (x : FVec Ideal S4096x26x128 .f32) (p : IVec S128 32) (W : FVec Ideal S128x128 .f32)
    (bias : FVec Ideal S128 .f32) (b : Fin 4096) (f : Fin 26) (k : Fin 128) : EReal :=
  (∑ i : Fin 128, (x (ix3 b f i) : EReal)
    * ∑ j : Fin 128, (if BitVec.ofNat 32 i.val = p (ix1 j) then (1 : EReal) else 0) * W (ix2 j k)) + bias (ix1 k)

/-- What the kernel returns, at an element. -/
theorem result_apply (b : Fin 4096) (f : Fin 26) (k : Fin 128) :
    returned (result m c) (ix3 b f k)
      = kernelAt (m ((c : Thread nD τ).loc main_arg0)) (m ((c : Thread nD τ).loc main_arg1))
          (m ((c : Thread nD τ).loc main_arg2)) (m ((c : Thread nD τ).loc main_arg3)) b f k := by
  have hp (j : Fin 128) : shapeCast S1x128 (m ((c : Thread nD τ).loc main_arg1) : Vec Ideal S128 .i32)
      shapeCasts_S128_S1x128 (ix2 0 j) = (m ((c : Thread nD τ).loc main_arg1) : Vec Ideal S128 .i32) (ix1 j) := by
    pointwise
  have hb : shapeCast S1x128 (m ((c : Thread nD τ).loc main_arg3) : Vec Ideal S128 .f32)
      shapeCasts_S128_S1x128 (ix2 0 k) = (m ((c : Thread nD τ).loc main_arg3) : Vec Ideal S128 .f32) (ix1 k) := by
    pointwise
  rw [returned_apply]
  refine (filled_apply c (V m c main_v3) (table m c) (biasOf m c) _ k).trans ?_
  unfold table biasOf
  rw [V_main_v3, block_perm, block_weights, block_bias, hb]
  refine congrArg (fun z : EReal => z + _) (Finset.sum_congr rfl fun i _ => ?_)
  rw [flat_apply, table_apply]
  simp only [hp]

end Cert.Kernel.Value

end
-- ==== Proof.ReferenceValue.lean ====
/- What the reference computes, over the extended reals, element by element, when its indices are
   those of a permutation. -/
module

public import proofs.«01_k».proof.ReferenceIdeal
public import proofs.«01_k».proof.Proof.Gen.ReferenceIdeal
public import Idealize.ShloMosaic.Lib.Pointwise
public import Idealize.ShloMosaic.Lib.WordCmp
public import Idealize.ShloMosaic.Lib.ReduceAll

@[expose] public section

set_option maxRecDepth 16384

noncomputable section

namespace Cert.ReferenceIdeal.Value

open Cert.ReferenceIdeal Cert.ReferenceIdeal.Gen
open Idealize.ShloMosaic

/-- The gather's dimension numbers, shortly. -/
abbrev lastAxis := gather_S4096x26x128_S128x1_S4096x26x128_01_2_n_n_2_1_4096261

/-- A gather along the last axis reads the row at the index, clamped into it. -/
theorem gather_apply (x : FVec Ideal S4096x26x128 .f32) (q : IVec S128x1 32) (b : Fin 4096) (f : Fin 26) (j : Fin 128) :
    Host.gather lastAxis x q (ix3 b f j) = x (ix3 b f ⟨min (q (ix2 j 0)).toInt.toNat 127, by omega⟩) := by
  unfold Host.gather
  refine congrArg x (funext fun a => Fin.ext ?_)
  show lastAxis.start (ix3 b f j) q a + lastAxis.batchCoord (ix3 b f j) a + lastAxis.offCoord (ix3 b f j) a = _
  rw [GatherDims.batchCoord_eq_zero _ _ _ List.not_mem_nil]
  have ha : a = 0 ∨ a = 1 ∨ a = 2 := by
    revert a
    decide
  rcases ha with rfl | rfl | rfl
  · unfold GatherDims.start GatherDims.offCoord
    rw [dif_neg (by decide), dif_pos (by decide)]
    show 0 + 0 + b.val = b.val
    omega
  · unfold GatherDims.start GatherDims.offCoord
    rw [dif_neg (by decide), dif_pos (by decide)]
    show 0 + 0 + f.val = f.val
    omega
  · rw [GatherDims.offCoord_eq_zero _ _ _ (by decide)]
    unfold GatherDims.start
    rw [dif_pos (by decide)]
    have e (h) : lastAxis.siIdx (ix3 b f j) ⟨List.idxOf (2 : Fin 3) lastAxis.startIndexMap, h⟩ = ix2 j 0 := by
      funext d
      refine Fin.ext ?_
      match d with
      | ⟨0, _⟩ => rfl
      | ⟨1, _⟩ => rfl
    rw [e]
    rfl

/-- The indices as the gather reads them: a negative one counts from the end. -/
abbrev wrapped (p : IVec S128 32) : IVec S128x1 32 :=
  broadcastInDim S128x1 ![0] bcast_S128_S128x1_0
    (select (cmpi .slt p (broadcastInDim S128 ![] bcast_S_S128 (constantI S_ 32 0#32)))
      (addi p (broadcastInDim S128 ![] bcast_S_S128 (constantI S_ 32 128#32))) p)

/-- Which of them are in range, at every element of the result. -/
abbrev inRange (p : IVec S128 32) : IVec S4096x26x128 1 :=
  broadcastInDim S4096x26x128 ![2] bcast_S128_S4096x26x128_2
    (Host.reduce IntOp.andi
      (andi (cmpi .sge (wrapped p) (broadcastInDim S128x1 ![] bcast_S_S128x1 (constantI S_ 32 0#32)))
        (cmpi .sle (wrapped p) (broadcastInDim S128x1 ![0, 1] bcast_S1x1_S128x1_0_1
          (broadcastInDim S1x1 ![1] bcast_S1_S1x1_1 (constantI S1 32 127#32)))))
      (constantI S_ 1 1#1) reducesTo_S128x1_S128_d1 h_S_)

/-- The gathered input. -/
abbrev taken (x : FVec Ideal S4096x26x128 .f32) (p : IVec S128 32) : FVec Ideal S4096x26x128 .f32 :=
  select (inRange p) (Host.gather lastAxis x (wrapped p))
    (broadcastInDim S4096x26x128 ![] bcast_S_S4096x26x128 (constant S_ .f32 0x7FC00000#32))

/-- What the reference returns. -/
abbrev whole (x : FVec Ideal S4096x26x128 .f32) (p : IVec S128 32) (W : FVec Ideal S128x128 .f32)
    (bias : FVec Ideal S128 .f32) : FVec Ideal S4096x26x128 .f32 :=
  addf (Host.dotGeneral dot_S4096x26x128_S128x128_S4096x26x128_2_0_01_1_n_n none (taken x p) W)
    (broadcastInDim S4096x26x128 ![0, 1, 2] bcast_S1x1x128_S4096x26x128_0_1_2
      (broadcastInDim S1x1x128 ![2] bcast_S128_S1x1x128_2 bias))

variable (σ : Equiv.Perm (Fin 128)) (p : IVec S128 32) (hp : ∀ j, p (ix1 j) = BitVec.ofNat 32 (σ j).val)

include hp in
/-- The indices of a permutation stay as they are. -/
theorem wrapped_apply (j : Fin 128) : wrapped p (ix2 j 0) = BitVec.ofNat 32 (σ j).val := by
  pointwise [wrapped]
  rw [hp]
  generalize σ j = n
  revert n
  decide

include hp in
/-- They are all in range. -/
theorem inRange_apply (b : Fin 4096) (f : Fin 26) (j : Fin 128) : inRange p (ix3 b f j) = 1#1 := by
  refine Host.reduce_andi_one _ _ _ _ _ rfl fun i => ?_
  obtain ⟨j, rfl⟩ : ∃ j : Fin 128, i = ix2 j 0 := by
    idx_vars i
    exact ⟨i0, congrArg (ix2 i0) (Subsingleton.elim _ _)⟩
  have hw := wrapped_apply σ p hp j
  generalize wrapped p = q at hw ⊢
  pointwise
  rw [hw]
  generalize σ j = n
  revert n
  decide

include hp in
/-- What is gathered. -/
theorem taken_apply (x : FVec Ideal S4096x26x128 .f32) (b : Fin 4096) (f : Fin 26) (j : Fin 128) :
    taken x p (ix3 b f j) = x (ix3 b f (σ j)) := by
  show Scalar.select (inRange p (ix3 b f j)) _ _ = _
  rw [inRange_apply σ p hp]
  refine (gather_apply x (wrapped p) b f j).trans (congrArg (fun i => x (ix3 b f i)) (Fin.ext ?_))
  show min (wrapped p (ix2 j 0)).toInt.toNat 127 = _
  rw [wrapped_apply σ p hp]
  generalize σ j = n
  revert n
  decide

include hp in
/-- What the reference returns, at an element. -/
theorem whole_apply (x : FVec Ideal S4096x26x128 .f32) (W : FVec Ideal S128x128 .f32) (bias : FVec Ideal S128 .f32)
    (b : Fin 4096) (f : Fin 26) (k : Fin 128) :
    whole x p W bias (ix3 b f k) = (∑ j : Fin 128, (x (ix3 b f (σ j)) : EReal) * W (ix2 j k)) + bias (ix1 k) := by
  have ht := taken_apply σ p hp x b f
  unfold whole
  generalize taken x p = y at ht ⊢
  pointwise
  simp only [ht]

end Cert.ReferenceIdeal.Value

end
-- ==== Proof.Permutation.lean ====
/- The precondition read back: the indices are a permutation of the places. -/
module

public import proofs.«01_k».proof.Pre_is_permutation
public import proofs.«01_k».proof.Proof.Gen.Pre_is_permutation
public import Idealize.ShloMosaic.Lib.Pointwise
public import Idealize.ShloMosaic.Lib.WordCmp
public import Idealize.ShloMosaic.Lib.Tactic.WordOmega

@[expose] public section

set_option maxRecDepth 16384

noncomputable section

namespace Cert.Pre_is_permutation

open Idealize.ShloMosaic

/-- At a pair of places: the index at the first is in range, and it is at the second only if they are one place. -/
theorem holds_at (x : FVec Ideal S4096x26x128 .f32) (p : IVec S128 32) (W : FVec Ideal S128x128 .f32)
    (bias : FVec Ideal S128 .f32) (h : fn (F := Ideal) x p W bias = fun _ => 1#1) (i j : Fin 128) :
    (0 ≤ (p (ix1 i)).toInt ∧ (p (ix1 i)).toInt < 128) ∧ (p (ix1 i) = p (ix1 j) → i = j) := by
  have e := congrFun h (ix2 i j)
  revert e
  pointwise [fn]
  rw [IntOp.andi_eq_one, IntOp.andi_eq_one, IntOp.ori_eq_one, IntOp.cmpi_sge, IntOp.cmpi_slt, IntOp.cmpi_ne, IntOp.cmpi_eq]
  rintro ⟨⟨h0, h1⟩, h2⟩
  refine ⟨⟨h0, h1⟩, fun hp => ?_⟩
  rcases h2 with h2 | h2
  · exact absurd hp h2
  · have hn := congrArg BitVec.toNat h2
    rw [BitVec.toNat_ofNat, BitVec.toNat_ofNat] at hn
    have := i.isLt
    have := j.isLt
    exact Fin.ext (by omega)

/-- A word in range of a nonnegative integer is read so too as a natural number. -/
theorem toNat_lt {w : BitVec 32} (h : 0 ≤ w.toInt ∧ w.toInt < 128) : w.toNat < 128 := by
  have := w.isLt
  have e := BitVec.toInt_eq_toNat_cond w
  split at e <;> omega

/-- The indices are the values of a permutation of the places. -/
theorem permutes (x : FVec Ideal S4096x26x128 .f32) (p : IVec S128 32) (W : FVec Ideal S128x128 .f32)
    (bias : FVec Ideal S128 .f32) (h : fn (F := Ideal) x p W bias = fun _ => 1#1) :
    ∃ σ : Equiv.Perm (Fin 128), ∀ j, p (ix1 j) = BitVec.ofNat 32 (σ j).val := by
  have hl (j : Fin 128) : (p (ix1 j)).toNat < 128 := toNat_lt (holds_at x p W bias h j j).1
  let place : Fin 128 → Fin 128 := fun j => ⟨(p (ix1 j)).toNat, hl j⟩
  have inj : Function.Injective place := fun i j e =>
    (holds_at x p W bias h i j).2 (BitVec.eq_of_toNat_eq (show (place i).val = (place j).val from congrArg Fin.val e))
  exact ⟨Equiv.ofBijective place (Finite.injective_iff_bijective.1 inj), fun j =>
    BitVec.eq_of_toNat_eq ((Nat.mod_eq_of_lt (p (ix1 j)).isLt).symm.trans (BitVec.toNat_ofNat _ _).symm)⟩

end Cert.Pre_is_permutation

end
-- ==== Proof.Value.lean ====
/- The equation: on a permutation, multiplying by the permuted weights is multiplying the gathered
   input by the weights. -/
module

public import proofs.«01_k».proof.Proof.Transport
public import proofs.«01_k».proof.Proof.KernelValue
public import proofs.«01_k».proof.Proof.ReferenceValue
public import proofs.«01_k».proof.Proof.Permutation
public import proofs.«01_k».proof.Proof.Gen.ReferenceIdeal.Run

@[expose] public section

set_option maxRecDepth 16384

noncomputable section

namespace Cert.Proof

open Idealize.ShloMosaic Idealize.SL.Sem

/-- Words of places are equal only for equal places. -/
theorem word_eq_iff (i j : Fin 128) : BitVec.ofNat 32 i.val = BitVec.ofNat 32 j.val ↔ i = j := by
  revert i j
  decide

/-- A row of a permutation's one-hot matrix picks one value. -/
theorem sum_oneHot (σ : Equiv.Perm (Fin 128)) (w : Fin 128 → EReal) (j : Fin 128) :
    ∑ l : Fin 128, (if BitVec.ofNat 32 (σ j).val = BitVec.ofNat 32 (σ l).val then (1 : EReal) else 0) * w l = w j := by
  rw [Finset.sum_eq_single j]
  · rw [if_pos rfl, one_mul]
  · intro l _ hl
    rw [if_neg fun h => hl (σ.injective ((word_eq_iff _ _).1 h)).symm, zero_mul]
  · exact fun h => absurd (Finset.mem_univ j) h

/-- The kernel's value, on a permutation, is that of the gathered input. -/
theorem kernelAt_eq (x : FVec Ideal Cert.Kernel.S4096x26x128 .f32) (p : IVec Cert.Kernel.S128 32)
    (W : FVec Ideal Cert.Kernel.S128x128 .f32) (bias : FVec Ideal Cert.Kernel.S128 .f32)
    (σ : Equiv.Perm (Fin 128)) (hp : ∀ j, p (ix1 j) = BitVec.ofNat 32 (σ j).val)
    (b : Fin 4096) (f : Fin 26) (k : Fin 128) :
    Cert.Kernel.Value.kernelAt x p W bias b f k
      = (∑ j : Fin 128, (x (ix3 b f (σ j)) : EReal) * W (ix2 j k)) + bias (ix1 k) := by
  unfold Cert.Kernel.Value.kernelAt
  simp only [hp]
  refine congrArg (fun z : EReal => z + bias (ix1 k)) ?_
  rw [← Equiv.sum_comp σ]
  exact Finset.sum_congr rfl fun j _ => congrArg (fun z : EReal => x (ix3 b f (σ j)) * z)
    (sum_oneHot σ (fun l => W (ix2 l k)) j)

/-- The two results are one array, on a permutation. -/
theorem result_eq (m : Mem) (c : Dev Cert.KernelIdeal.nD)
    (σ : Equiv.Perm (Fin 128))
    (hp : ∀ j, (m ((c.tc : Thread Cert.Kernel.nD Cert.Kernel.τ).loc Cert.Kernel.main_arg1) : IVec Cert.Kernel.S128 32) (ix1 j)
      = BitVec.ofNat 32 (σ j).val) :
    Cert.ReferenceIdeal.Value.whole (m ((c.tc : Thread Cert.Kernel.nD Cert.Kernel.τ).loc Cert.Kernel.main_arg0))
        (m ((c.tc : Thread Cert.Kernel.nD Cert.Kernel.τ).loc Cert.Kernel.main_arg1))
        (m ((c.tc : Thread Cert.Kernel.nD Cert.Kernel.τ).loc Cert.Kernel.main_arg2))
        (m ((c.tc : Thread Cert.Kernel.nD Cert.Kernel.τ).loc Cert.Kernel.main_arg3))
      = Cert.Kernel.Stream.returned (Cert.Kernel.Stream.result (F := Ideal) m c) := by
  funext i
  obtain ⟨b, f, k, rfl⟩ : ∃ (b : Fin 4096) (f : Fin 26) (k : Fin 128), i = ix3 b f k := ⟨i 0, i 1, i 2, eq_ix3 i⟩
  exact (Cert.ReferenceIdeal.Value.whole_apply σ _ hp _ _ _ b f k).trans
    ((kernelAt_eq _ _ _ _ σ hp b f k).symm.trans (Cert.Kernel.Value.result_apply m c b f k).symm)

/-- Over the extended reals and on a permutation, the kernel and the reference leave one array, their
    arguments as they were. -/
theorem value : Cert.algebraic_KernelIdeal_ReferenceIdeal_pre_is_permutation := by
  intro m g m' g' hpre hagree
  refine ⟨fun c => Cert.Kernel.Stream.returned (Cert.Kernel.Stream.result (F := Ideal) m c), ?_, ?_⟩
  · exact transport m g _ ((θ_run Cert.Kernel.defs _ _).mono (fun _ h => h.1) (Cert.Kernel.Stream.ends (F := Ideal) m g))
  · refine (θ_run Cert.ReferenceIdeal.defs _ _).mono (fun r h c => ⟨?_, (h c).2⟩)
      (Cert.ReferenceIdeal.Value.run (F := Ideal) m' g')
    obtain ⟨σ, hp⟩ := Cert.Pre_is_permutation.permutes _ _ _ _ (hpre c)
    refine (h c).1.trans (Eq.trans ?_ (result_eq m c σ hp))
    have ha := hagree c
    rw [ha.1, ha.2.1, ha.2.2.1, ha.2.2.2]

end Cert.Proof

end
-- ==== Proof.lean ====
/- The certificate of the gather and linear layer: its claims, put together from the modules under
   Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.Pre_is_permutation
public import proofs.«01_k».proof.Proof.Transport
public import proofs.«01_k».proof.Proof.Value
public import Idealize.ShloMosaic.Lib.Quiescent

@[expose] public section

noncomputable section

namespace Cert.Proof

open Idealize.ShloMosaic Idealize.SL.Sem

/-- The reference ends with its arguments as they were; it has no counters. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- All the claims; a frame that holds from any memory holds where the indices are a permutation. -/
theorem claim : Cert.Claim := ⟨Cert.Kernel.Gen.facts, Cert.KernelIdeal.Gen.facts, Cert.ReferenceIdeal.Gen.facts,
  Cert.Pre_is_permutation.Gen.facts, frame_kernel, frame_ideal, fun m g _ => frame_ideal m g trivial, frame_reference,
  fun m g _ => frame_reference m g trivial, trivial, value⟩

end Cert.Proof

end
